-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x150x150 : Shape := ⟨3, ![4, 150, 150]⟩
abbrev S4x150x4 : Shape := ⟨3, ![4, 150, 4]⟩
abbrev S4x150x614 : Shape := ⟨3, ![4, 150, 614]⟩
abbrev S1x150x150 : Shape := ⟨3, ![1, 150, 150]⟩
abbrev S1x150x4 : Shape := ⟨3, ![1, 150, 4]⟩
abbrev S1x150x614 : Shape := ⟨3, ![1, 150, 614]⟩
abbrev S150x150 : Shape := ⟨2, ![150, 150]⟩
abbrev S150x4 : Shape := ⟨2, ![150, 4]⟩
abbrev S150 : Shape := ⟨1, ![150]⟩
abbrev S150x1 : Shape := ⟨2, ![150, 1]⟩
abbrev S150x614 : Shape := ⟨2, ![150, 614]⟩
abbrev S4x22350x614 : Shape := ⟨3, ![4, 22350, 614]⟩
abbrev S1192x614 : Shape := ⟨2, ![1192, 614]⟩
abbrev S4 : Shape := ⟨1, ![4]⟩
abbrev S1 : Shape := ⟨1, ![1]⟩
abbrev S_ : Shape := ⟨0, ![]⟩
abbrev S1x1192x614 : Shape := ⟨3, ![1, 1192, 614]⟩
abbrev S1x149x614 : Shape := ⟨3, ![1, 149, 614]⟩
abbrev S149x614 : Shape := ⟨2, ![149, 614]⟩
abbrev S149x1 : Shape := ⟨2, ![149, 1]⟩
abbrev S1x1x614 : Shape := ⟨3, ![1, 1, 614]⟩
abbrev S1x614 : Shape := ⟨2, ![1, 614]⟩

abbrev nBuf : Space → Nat
  | .hbm => 6
  | .vmem => 20
  | .smem => 0
  | _ => 0

abbrev bufTy : (tb : Table) → Fin (tcTables nBuf tb) → BufTy
  | .hbm, ⟨0, _⟩ => ⟨S4x150x150, .f32⟩
  | .hbm, ⟨1, _⟩ => ⟨S4x150x4, .f32⟩
  | .hbm, ⟨2, _⟩ => ⟨S4x150x614, .f32⟩
  | .hbm, ⟨3, _⟩ => ⟨S4x150x614, .f32⟩
  | .hbm, ⟨4, _⟩ => ⟨S4x22350x614, .f32⟩
  | .hbm, ⟨5, _⟩ => ⟨S4x22350x614, .f32⟩
  | .local _ .vmem, ⟨0, _⟩ => ⟨S1x150x150, .f32⟩
  | .local _ .vmem, ⟨1, _⟩ => ⟨S1x150x150, .f32⟩
  | .local _ .vmem, ⟨2, _⟩ => ⟨S1x150x4, .f32⟩
  | .local _ .vmem, ⟨3, _⟩ => ⟨S1x150x4, .f32⟩
  | .local _ .vmem, ⟨4, _⟩ => ⟨S1x150x614, .f32⟩
  | .local _ .vmem, ⟨5, _⟩ => ⟨S1x150x614, .f32⟩
  | .local _ .vmem, ⟨6, _⟩ => ⟨S1x150x614, .f32⟩
  | .local _ .vmem, ⟨7, _⟩ => ⟨S1x150x614, .f32⟩
  | .local _ .vmem, ⟨8, _⟩ => ⟨S4x150x614, .f32⟩
  | .local _ .vmem, ⟨9, _⟩ => ⟨S4x150x614, .f32⟩
  | .local _ .vmem, ⟨10, _⟩ => ⟨S1192x614, .f32⟩
  | .local _ .vmem, ⟨11, _⟩ => ⟨S1192x614, .f32⟩
  | .local _ .vmem, ⟨12, _⟩ => ⟨S1192x614, .f32⟩
  | .local _ .vmem, ⟨13, _⟩ => ⟨S1192x614, .f32⟩
  | .local _ .vmem, ⟨14, _⟩ => ⟨S1x150x614, .f32⟩
  | .local _ .vmem, ⟨15, _⟩ => ⟨S1x150x614, .f32⟩
  | .local _ .vmem, ⟨16, _⟩ => ⟨S1x150x614, .f32⟩
  | .local _ .vmem, ⟨17, _⟩ => ⟨S1x150x614, .f32⟩
  | .local _ .vmem, ⟨18, _⟩ => ⟨S1x1192x614, .f32⟩
  | .local _ .vmem, ⟨19, _⟩ => ⟨S1x1192x614, .f32⟩
  | _, _ => ⟨S4x150x150, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc1_scratch3 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x150x150 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x150x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x150x614 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x150x614 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![18], ![false]⟩

def k1_cond1 (i : grid1.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .ne v5 c0_i32_2
  v6

def k1_off1 (i : grid1.Coords) : Fin 3 → Nat :=
  let arg0 : BitVec 32 := BitVec.ofNat 32 (i 0).val
  let c1_i32_305 : BitVec 32 := 1#32
  let v819 : BitVec 32 := Scalar.subi arg0 c1_i32_305
  let c4_i32_306 : BitVec 32 := 4#32
  let v820 : BitVec 32 := Scalar.muli v819 c4_i32_306
  let c0_i32_307 : BitVec 32 := 0#32
  let v821 : BitVec 32 := Scalar.addi v820 c0_i32_307
  let c18_i32_308 : BitVec 32 := 18#32
  let v822 : BitVec 32 := Scalar.divsi v821 c18_i32_308
  let c18_i32_309 : BitVec 32 := 18#32
  let v823 : BitVec 32 := Scalar.remsi v821 c18_i32_309
  let c1192_i32_310 : BitVec 32 := 1192#32
  let v824 : BitVec 32 := Scalar.muli v823 c1192_i32_310
  let c0_i32_312 : BitVec 32 := 0#32
  ![v822.toNat, v824.toNat, 0]
def k1_off2 (i : grid1.Coords) (c0_i32 : BitVec 32) : Fin 3 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let c18_i32 : BitVec 32 := 18#32
  let v2 : BitVec 32 := Scalar.divsi v1 c18_i32
  let v9 : Index := Scalar.indexCast v2
  let c0 : Index := 0#32
  let c0_4 : Index := 0#32
  ![v9.toNat, 0, 0]
def k1_off3 (i : grid1.Coords) (c0_i32 : BitVec 32) : Fin 3 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let c18_i32 : BitVec 32 := 18#32
  let v2 : BitVec 32 := Scalar.divsi v1 c18_i32
  let v12 : Index := Scalar.indexCast v2
  let c1 : Index := 1#32
  let c0_5 : Index := 0#32
  ![v12.toNat, 1, 0]
def k1_off4 (i : grid1.Coords) (c0_i32 : BitVec 32) (c0_i32_3 : BitVec 32) : Fin 3 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let c18_i32 : BitVec 32 := 18#32
  let v2 : BitVec 32 := Scalar.divsi v1 c18_i32
  let v16 : Index := Scalar.indexCast v2
  let c18_i32_0 : BitVec 32 := 18#32
  let v3 : BitVec 32 := Scalar.remsi v1 c18_i32_0
  let c8_i32 : BitVec 32 := 8#32
  let v7 : BitVec 32 := Scalar.muli v3 c8_i32
  let v8 : BitVec 32 := Scalar.addi v7 c0_i32_3
  let v17 : Index := Scalar.indexCast v8
  let c0_6 : Index := 0#32
  ![v16.toNat, v17.toNat, 0]
def k1_off5 (i : grid1.Coords) (c0_i32 : BitVec 32) : Fin 3 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let c18_i32 : BitVec 32 := 18#32
  let v2 : BitVec 32 := Scalar.divsi v1 c18_i32
  let c18_i32_0 : BitVec 32 := 18#32
  let v3 : BitVec 32 := Scalar.remsi v1 c18_i32_0
  let c1192_i32 : BitVec 32 := 1192#32
  let v199 : BitVec 32 := Scalar.muli v3 c1192_i32
  let c0_i32_60 : BitVec 32 := 0#32
  ![v2.toNat, v199.toNat, 0]
def k1_cond2 (i : grid1.Coords) : BitVec 1 :=
  let arg0 : BitVec 32 := BitVec.ofNat 32 (i 0).val
  let c0_i32_65 : BitVec 32 := 0#32
  let v208 : BitVec 1 := Scalar.cmpi .sgt arg0 c0_i32_65
  let v209 : BitVec 32 := Scalar.extui v208
  let c0_i32_66 : BitVec 32 := 0#32
  let v210 : BitVec 1 := Scalar.cmpi .ne v209 c0_i32_66
  v210

def k1_off6 (i : grid1.Coords) : Fin 3 → Nat :=
  let arg0 : BitVec 32 := BitVec.ofNat 32 (i 0).val
  let c1_i32_305 : BitVec 32 := 1#32
  let v819 : BitVec 32 := Scalar.subi arg0 c1_i32_305
  let c4_i32_306 : BitVec 32 := 4#32
  let v820 : BitVec 32 := Scalar.muli v819 c4_i32_306
  let c1_i32_307 : BitVec 32 := 1#32
  let v821 : BitVec 32 := Scalar.addi v820 c1_i32_307
  let c18_i32_308 : BitVec 32 := 18#32
  let v822 : BitVec 32 := Scalar.divsi v821 c18_i32_308
  let c18_i32_309 : BitVec 32 := 18#32
  let v823 : BitVec 32 := Scalar.remsi v821 c18_i32_309
  let c1192_i32_310 : BitVec 32 := 1192#32
  let v824 : BitVec 32 := Scalar.muli v823 c1192_i32_310
  let c0_i32_312 : BitVec 32 := 0#32
  ![v822.toNat, v824.toNat, 0]
def k1_cond3 (i : grid1.Coords) : BitVec 1 :=
  let arg0 : BitVec 32 := BitVec.ofNat 32 (i 0).val
  let c0_i32_146 : BitVec 32 := 0#32
  let v412 : BitVec 1 := Scalar.cmpi .sgt arg0 c0_i32_146
  let v413 : BitVec 32 := Scalar.extui v412
  let c0_i32_147 : BitVec 32 := 0#32
  let v414 : BitVec 1 := Scalar.cmpi .ne v413 c0_i32_147
  v414

def k1_off7 (i : grid1.Coords) : Fin 3 → Nat :=
  let arg0 : BitVec 32 := BitVec.ofNat 32 (i 0).val
  let c1_i32_305 : BitVec 32 := 1#32
  let v819 : BitVec 32 := Scalar.subi arg0 c1_i32_305
  let c4_i32_306 : BitVec 32 := 4#32
  let v820 : BitVec 32 := Scalar.muli v819 c4_i32_306
  let c2_i32_307 : BitVec 32 := 2#32
  let v821 : BitVec 32 := Scalar.addi v820 c2_i32_307
  let c18_i32_308 : BitVec 32 := 18#32
  let v822 : BitVec 32 := Scalar.divsi v821 c18_i32_308
  let c18_i32_309 : BitVec 32 := 18#32
  let v823 : BitVec 32 := Scalar.remsi v821 c18_i32_309
  let c1192_i32_310 : BitVec 32 := 1192#32
  let v824 : BitVec 32 := Scalar.muli v823 c1192_i32_310
  let c0_i32_312 : BitVec 32 := 0#32
  ![v822.toNat, v824.toNat, 0]
def k1_cond4 (i : grid1.Coords) : BitVec 1 :=
  let arg0 : BitVec 32 := BitVec.ofNat 32 (i 0).val
  let c0_i32_227 : BitVec 32 := 0#32
  let v616 : BitVec 1 := Scalar.cmpi .sgt arg0 c0_i32_227
  let v617 : BitVec 32 := Scalar.extui v616
  let c0_i32_228 : BitVec 32 := 0#32
  let v618 : BitVec 1 := Scalar.cmpi .ne v617 c0_i32_228
  v618

def k1_off8 (i : grid1.Coords) : Fin 3 → Nat :=
  let arg0 : BitVec 32 := BitVec.ofNat 32 (i 0).val
  let c1_i32_305 : BitVec 32 := 1#32
  let v819 : BitVec 32 := Scalar.subi arg0 c1_i32_305
  let c4_i32_306 : BitVec 32 := 4#32
  let v820 : BitVec 32 := Scalar.muli v819 c4_i32_306
  let c3_i32_307 : BitVec 32 := 3#32
  let v821 : BitVec 32 := Scalar.addi v820 c3_i32_307
  let c18_i32_308 : BitVec 32 := 18#32
  let v822 : BitVec 32 := Scalar.divsi v821 c18_i32_308
  let c18_i32_309 : BitVec 32 := 18#32
  let v823 : BitVec 32 := Scalar.remsi v821 c18_i32_309
  let c1192_i32_310 : BitVec 32 := 1192#32
  let v824 : BitVec 32 := Scalar.muli v823 c1192_i32_310
  let c0_i32_312 : BitVec 32 := 0#32
  ![v822.toNat, v824.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S4x150x614 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x150x614 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![4], ![false]⟩

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c18_i32 : BitVec 32 := 18#32
  let c0_i32 : BitVec 32 := 0#32
  let c0_i32_0 : BitVec 32 := 0#32
  ![arg0.toNat, c18_i32.toNat, c0_i32.toNat]

abbrev stage2_0 : Fin 2 → Memref sig .tc .vmem S1x150x614 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x150x614 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1192x614 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S4x150x150 : Shape := ⟨3, ![4, 150, 150]⟩
abbrev S4x150x4 : Shape := ⟨3, ![4, 150, 4]⟩
abbrev S22350 : Shape := ⟨1, ![22350]⟩
abbrev S_ : Shape := ⟨0, ![]⟩
abbrev S4x150 : Shape := ⟨2, ![4, 150]⟩
abbrev S4x150x1 : Shape := ⟨3, ![4, 150, 1]⟩
abbrev S22350x1 : Shape := ⟨2, ![22350, 1]⟩
abbrev S1 : Shape := ⟨1, ![1]⟩
abbrev S1x1 : Shape := ⟨2, ![1, 1]⟩
abbrev S4x22350x4 : Shape := ⟨3, ![4, 22350, 4]⟩
abbrev S4x22350x8 : Shape := ⟨3, ![4, 22350, 8]⟩
abbrev S4x22350x150 : Shape := ⟨3, ![4, 22350, 150]⟩
abbrev S4x22350x300 : Shape := ⟨3, ![4, 22350, 300]⟩
abbrev S4x22350x1 : Shape := ⟨3, ![4, 22350, 1]⟩
abbrev S4x22350x2 : Shape := ⟨3, ![4, 22350, 2]⟩
abbrev S4x22350x614 : Shape := ⟨3, ![4, 22350, 614]⟩

abbrev nBuf : Space → Nat
  | .hbm => 323
  | .vmem => 0
  | .smem => 0
  | _ => 0

abbrev hbmTy0_0 (i : Nat) : BufTy := match i % 128 with
  | 0 => ⟨S4x150x150, .f32⟩
  | 1 => ⟨S4x150x4, .f32⟩
  | 2 => ⟨S22350, .i32⟩
  | 3 => ⟨S22350, .i32⟩
  | 4 => ⟨S4x150x150, .f32⟩
  | 5 => ⟨S4x150x150, .f32⟩
  | 6 => ⟨S_, .f32⟩
  | 7 => ⟨S4x150x150, .f32⟩
  | 8 => ⟨S4x150x150, .f32⟩
  | 9 => ⟨S_, .f32⟩
  | 10 => ⟨S4x150x150, .f32⟩
  | 11 => ⟨S4x150x150, .f32⟩
  | 12 => ⟨S_, .f32⟩
  | 13 => ⟨S4x150, .f32⟩
  | 14 => ⟨S_, .f32⟩
  | 15 => ⟨S4x150x150, .f32⟩
  | 16 => ⟨S4x150x150, .f32⟩
  | 17 => ⟨S4x150x150, .f32⟩
  | 18 => ⟨S4x150x150, .f32⟩
  | 19 => ⟨S_, .f32⟩
  | 20 => ⟨S4x150x150, .f32⟩
  | 21 => ⟨S4x150x150, .f32⟩
  | 22 => ⟨S_, .f32⟩
  | 23 => ⟨S4x150x150, .f32⟩
  | 24 => ⟨S4x150x150, .f32⟩
  | 25 => ⟨S4x150x150, .f32⟩
  | 26 => ⟨S_, .f32⟩
  | 27 => ⟨S4x150, .f32⟩
  | 28 => ⟨S4x150, .f32⟩
  | 29 => ⟨S4x150, .f32⟩
  | 30 => ⟨S4x150x1, .f32⟩
  | 31 => ⟨S_, .f32⟩
  | 32 => ⟨S4x150, .f32⟩
  | 33 => ⟨S4x150, .f32⟩
  | 34 => ⟨S_, .f32⟩
  | 35 => ⟨S4x150, .f32⟩
  | 36 => ⟨S4x150, .f32⟩
  | 37 => ⟨S4x150, .f32⟩
  | 38 => ⟨S4x150x1, .f32⟩
  | 39 => ⟨S4x150x1, .f32⟩
  | 40 => ⟨S_, .i32⟩
  | 41 => ⟨S22350, .i32⟩
  | 42 => ⟨S22350, .i1⟩
  | 43 => ⟨S_, .i32⟩
  | 44 => ⟨S22350, .i32⟩
  | 45 => ⟨S22350, .i32⟩
  | 46 => ⟨S22350, .i32⟩
  | 47 => ⟨S22350x1, .i32⟩
  | 48 => ⟨S1, .i32⟩
  | 49 => ⟨S_, .i32⟩
  | 50 => ⟨S22350x1, .i32⟩
  | 51 => ⟨S22350x1, .i1⟩
  | 52 => ⟨S1x1, .i32⟩
  | 53 => ⟨S22350x1, .i32⟩
  | 54 => ⟨S22350x1, .i1⟩
  | 55 => ⟨S22350x1, .i1⟩
  | 56 => ⟨S_, .i1⟩
  | 57 => ⟨S22350, .i1⟩
  | 58 => ⟨S4x22350x4, .f32⟩
  | 59 => ⟨S4x22350x4, .i1⟩
  | 60 => ⟨S_, .f32⟩
  | 61 => ⟨S4x22350x4, .f32⟩
  | 62 => ⟨S4x22350x4, .f32⟩
  | 63 => ⟨S_, .i32⟩
  | 64 => ⟨S22350, .i32⟩
  | 65 => ⟨S22350, .i1⟩
  | 66 => ⟨S_, .i32⟩
  | 67 => ⟨S22350, .i32⟩
  | 68 => ⟨S22350, .i32⟩
  | 69 => ⟨S22350, .i32⟩
  | 70 => ⟨S22350x1, .i32⟩
  | 71 => ⟨S1, .i32⟩
  | 72 => ⟨S_, .i32⟩
  | 73 => ⟨S22350x1, .i32⟩
  | 74 => ⟨S22350x1, .i1⟩
  | 75 => ⟨S1x1, .i32⟩
  | 76 => ⟨S22350x1, .i32⟩
  | 77 => ⟨S22350x1, .i1⟩
  | 78 => ⟨S22350x1, .i1⟩
  | 79 => ⟨S_, .i1⟩
  | 80 => ⟨S22350, .i1⟩
  | 81 => ⟨S4x22350x4, .f32⟩
  | 82 => ⟨S4x22350x4, .i1⟩
  | 83 => ⟨S_, .f32⟩
  | 84 => ⟨S4x22350x4, .f32⟩
  | 85 => ⟨S4x22350x4, .f32⟩
  | 86 => ⟨S4x22350x8, .f32⟩
  | 87 => ⟨S_, .i32⟩
  | 88 => ⟨S22350, .i32⟩
  | 89 => ⟨S22350, .i1⟩
  | 90 => ⟨S_, .i32⟩
  | 91 => ⟨S22350, .i32⟩
  | 92 => ⟨S22350, .i32⟩
  | 93 => ⟨S22350, .i32⟩
  | 94 => ⟨S22350x1, .i32⟩
  | 95 => ⟨S1, .i32⟩
  | 96 => ⟨S_, .i32⟩
  | 97 => ⟨S22350x1, .i32⟩
  | 98 => ⟨S22350x1, .i1⟩
  | 99 => ⟨S1x1, .i32⟩
  | 100 => ⟨S22350x1, .i32⟩
  | 101 => ⟨S22350x1, .i1⟩
  | 102 => ⟨S22350x1, .i1⟩
  | 103 => ⟨S_, .i1⟩
  | 104 => ⟨S22350, .i1⟩
  | 105 => ⟨S4x22350x150, .f32⟩
  | 106 => ⟨S4x22350x150, .i1⟩
  | 107 => ⟨S_, .f32⟩
  | 108 => ⟨S4x22350x150, .f32⟩
  | 109 => ⟨S4x22350x150, .f32⟩
  | 110 => ⟨S_, .i32⟩
  | 111 => ⟨S22350, .i32⟩
  | 112 => ⟨S22350, .i1⟩
  | 113 => ⟨S_, .i32⟩
  | 114 => ⟨S22350, .i32⟩
  | 115 => ⟨S22350, .i32⟩
  | 116 => ⟨S22350, .i32⟩
  | 117 => ⟨S22350x1, .i32⟩
  | 118 => ⟨S1, .i32⟩
  | 119 => ⟨S_, .i32⟩
  | 120 => ⟨S22350x1, .i32⟩
  | 121 => ⟨S22350x1, .i1⟩
  | 122 => ⟨S1x1, .i32⟩
  | 123 => ⟨S22350x1, .i32⟩
  | 124 => ⟨S22350x1, .i1⟩
  | 125 => ⟨S22350x1, .i1⟩
  | 126 => ⟨S_, .i1⟩
  | 127 => ⟨S22350, .i1⟩
  | _ => ⟨S4x150x150, .f32⟩

abbrev hbmTy0_1 (i : Nat) : BufTy := match i % 128 with
  | 0 => ⟨S4x22350x150, .f32⟩
  | 1 => ⟨S4x22350x150, .i1⟩
  | 2 => ⟨S_, .f32⟩
  | 3 => ⟨S4x22350x150, .f32⟩
  | 4 => ⟨S4x22350x150, .f32⟩
  | 5 => ⟨S4x22350x300, .f32⟩
  | 6 => ⟨S_, .i32⟩
  | 7 => ⟨S22350, .i32⟩
  | 8 => ⟨S22350, .i1⟩
  | 9 => ⟨S_, .i32⟩
  | 10 => ⟨S22350, .i32⟩
  | 11 => ⟨S22350, .i32⟩
  | 12 => ⟨S22350, .i32⟩
  | 13 => ⟨S22350x1, .i32⟩
  | 14 => ⟨S1, .i32⟩
  | 15 => ⟨S_, .i32⟩
  | 16 => ⟨S22350x1, .i32⟩
  | 17 => ⟨S22350x1, .i1⟩
  | 18 => ⟨S1x1, .i32⟩
  | 19 => ⟨S22350x1, .i32⟩
  | 20 => ⟨S22350x1, .i1⟩
  | 21 => ⟨S22350x1, .i1⟩
  | 22 => ⟨S_, .i1⟩
  | 23 => ⟨S22350, .i1⟩
  | 24 => ⟨S4x22350x150, .f32⟩
  | 25 => ⟨S4x22350x150, .i1⟩
  | 26 => ⟨S_, .f32⟩
  | 27 => ⟨S4x22350x150, .f32⟩
  | 28 => ⟨S4x22350x150, .f32⟩
  | 29 => ⟨S_, .i32⟩
  | 30 => ⟨S22350, .i32⟩
  | 31 => ⟨S22350, .i1⟩
  | 32 => ⟨S_, .i32⟩
  | 33 => ⟨S22350, .i32⟩
  | 34 => ⟨S22350, .i32⟩
  | 35 => ⟨S22350, .i32⟩
  | 36 => ⟨S22350x1, .i32⟩
  | 37 => ⟨S1, .i32⟩
  | 38 => ⟨S_, .i32⟩
  | 39 => ⟨S22350x1, .i32⟩
  | 40 => ⟨S22350x1, .i1⟩
  | 41 => ⟨S1x1, .i32⟩
  | 42 => ⟨S22350x1, .i32⟩
  | 43 => ⟨S22350x1, .i1⟩
  | 44 => ⟨S22350x1, .i1⟩
  | 45 => ⟨S_, .i1⟩
  | 46 => ⟨S22350, .i1⟩
  | 47 => ⟨S4x22350x150, .f32⟩
  | 48 => ⟨S4x22350x150, .i1⟩
  | 49 => ⟨S_, .f32⟩
  | 50 => ⟨S4x22350x150, .f32⟩
  | 51 => ⟨S4x22350x150, .f32⟩
  | 52 => ⟨S4x22350x300, .f32⟩
  | 53 => ⟨S_, .i32⟩
  | 54 => ⟨S22350, .i32⟩
  | 55 => ⟨S22350, .i1⟩
  | 56 => ⟨S_, .i32⟩
  | 57 => ⟨S22350, .i32⟩
  | 58 => ⟨S22350, .i32⟩
  | 59 => ⟨S22350, .i32⟩
  | 60 => ⟨S22350x1, .i32⟩
  | 61 => ⟨S1, .i32⟩
  | 62 => ⟨S_, .i32⟩
  | 63 => ⟨S22350x1, .i32⟩
  | 64 => ⟨S22350x1, .i1⟩
  | 65 => ⟨S1x1, .i32⟩
  | 66 => ⟨S22350x1, .i32⟩
  | 67 => ⟨S22350x1, .i1⟩
  | 68 => ⟨S22350x1, .i1⟩
  | 69 => ⟨S_, .i1⟩
  | 70 => ⟨S22350, .i1⟩
  | 71 => ⟨S4x22350x1, .f32⟩
  | 72 => ⟨S4x22350x1, .i1⟩
  | 73 => ⟨S_, .f32⟩
  | 74 => ⟨S4x22350x1, .f32⟩
  | 75 => ⟨S4x22350x1, .f32⟩
  | 76 => ⟨S_, .i32⟩
  | 77 => ⟨S22350, .i32⟩
  | 78 => ⟨S22350, .i1⟩
  | 79 => ⟨S_, .i32⟩
  | 80 => ⟨S22350, .i32⟩
  | 81 => ⟨S22350, .i32⟩
  | 82 => ⟨S22350, .i32⟩
  | 83 => ⟨S22350x1, .i32⟩
  | 84 => ⟨S1, .i32⟩
  | 85 => ⟨S_, .i32⟩
  | 86 => ⟨S22350x1, .i32⟩
  | 87 => ⟨S22350x1, .i1⟩
  | 88 => ⟨S1x1, .i32⟩
  | 89 => ⟨S22350x1, .i32⟩
  | 90 => ⟨S22350x1, .i1⟩
  | 91 => ⟨S22350x1, .i1⟩
  | 92 => ⟨S_, .i1⟩
  | 93 => ⟨S22350, .i1⟩
  | 94 => ⟨S4x22350x1, .f32⟩
  | 95 => ⟨S4x22350x1, .i1⟩
  | 96 => ⟨S_, .f32⟩
  | 97 => ⟨S4x22350x1, .f32⟩
  | 98 => ⟨S4x22350x1, .f32⟩
  | 99 => ⟨S4x22350x2, .f32⟩
  | 100 => ⟨S_, .i32⟩
  | 101 => ⟨S22350, .i32⟩
  | 102 => ⟨S22350, .i1⟩
  | 103 => ⟨S_, .i32⟩
  | 104 => ⟨S22350, .i32⟩
  | 105 => ⟨S22350, .i32⟩
  | 106 => ⟨S22350, .i32⟩
  | 107 => ⟨S22350x1, .i32⟩
  | 108 => ⟨S1, .i32⟩
  | 109 => ⟨S_, .i32⟩
  | 110 => ⟨S22350x1, .i32⟩
  | 111 => ⟨S22350x1, .i1⟩
  | 112 => ⟨S1x1, .i32⟩
  | 113 => ⟨S22350x1, .i32⟩
  | 114 => ⟨S22350x1, .i1⟩
  | 115 => ⟨S22350x1, .i1⟩
  | 116 => ⟨S_, .i1⟩
  | 117 => ⟨S22350, .i1⟩
  | 118 => ⟨S4x22350x1, .f32⟩
  | 119 => ⟨S4x22350x1, .i1⟩
  | 120 => ⟨S_, .f32⟩
  | 121 => ⟨S4x22350x1, .f32⟩
  | 122 => ⟨S4x22350x1, .f32⟩
  | 123 => ⟨S_, .i32⟩
  | 124 => ⟨S22350, .i32⟩
  | 125 => ⟨S22350, .i1⟩
  | 126 => ⟨S_, .i32⟩
  | 127 => ⟨S22350, .i32⟩
  | _ => ⟨S4x150x150, .f32⟩

abbrev hbmTy0_2 (i : Nat) : BufTy := match i % 128 with
  | 0 => ⟨S22350, .i32⟩
  | 1 => ⟨S22350, .i32⟩
  | 2 => ⟨S22350x1, .i32⟩
  | 3 => ⟨S1, .i32⟩
  | 4 => ⟨S_, .i32⟩
  | 5 => ⟨S22350x1, .i32⟩
  | 6 => ⟨S22350x1, .i1⟩
  | 7 => ⟨S1x1, .i32⟩
  | 8 => ⟨S22350x1, .i32⟩
  | 9 => ⟨S22350x1, .i1⟩
  | 10 => ⟨S22350x1, .i1⟩
  | 11 => ⟨S_, .i1⟩
  | 12 => ⟨S22350, .i1⟩
  | 13 => ⟨S4x22350x1, .f32⟩
  | 14 => ⟨S4x22350x1, .i1⟩
  | 15 => ⟨S_, .f32⟩
  | 16 => ⟨S4x22350x1, .f32⟩
  | 17 => ⟨S4x22350x1, .f32⟩
  | 18 => ⟨S4x22350x2, .f32⟩
  | 19 => ⟨S_, .i32⟩
  | 20 => ⟨S22350, .i32⟩
  | 21 => ⟨S22350, .i1⟩
  | 22 => ⟨S_, .i32⟩
  | 23 => ⟨S22350, .i32⟩
  | 24 => ⟨S22350, .i32⟩
  | 25 => ⟨S22350, .i32⟩
  | 26 => ⟨S22350x1, .i32⟩
  | 27 => ⟨S1, .i32⟩
  | 28 => ⟨S_, .i32⟩
  | 29 => ⟨S22350x1, .i32⟩
  | 30 => ⟨S22350x1, .i1⟩
  | 31 => ⟨S1x1, .i32⟩
  | 32 => ⟨S22350x1, .i32⟩
  | 33 => ⟨S22350x1, .i1⟩
  | 34 => ⟨S22350x1, .i1⟩
  | 35 => ⟨S_, .i1⟩
  | 36 => ⟨S22350, .i1⟩
  | 37 => ⟨S4x22350x1, .f32⟩
  | 38 => ⟨S4x22350x1, .i1⟩
  | 39 => ⟨S_, .f32⟩
  | 40 => ⟨S4x22350x1, .f32⟩
  | 41 => ⟨S4x22350x1, .f32⟩
  | 42 => ⟨S_, .i32⟩
  | 43 => ⟨S22350, .i32⟩
  | 44 => ⟨S22350, .i1⟩
  | 45 => ⟨S_, .i32⟩
  | 46 => ⟨S22350, .i32⟩
  | 47 => ⟨S22350, .i32⟩
  | 48 => ⟨S22350, .i32⟩
  | 49 => ⟨S22350x1, .i32⟩
  | 50 => ⟨S1, .i32⟩
  | 51 => ⟨S_, .i32⟩
  | 52 => ⟨S22350x1, .i32⟩
  | 53 => ⟨S22350x1, .i1⟩
  | 54 => ⟨S1x1, .i32⟩
  | 55 => ⟨S22350x1, .i32⟩
  | 56 => ⟨S22350x1, .i1⟩
  | 57 => ⟨S22350x1, .i1⟩
  | 58 => ⟨S_, .i1⟩
  | 59 => ⟨S22350, .i1⟩
  | 60 => ⟨S4x22350x1, .f32⟩
  | 61 => ⟨S4x22350x1, .i1⟩
  | 62 => ⟨S_, .f32⟩
  | 63 => ⟨S4x22350x1, .f32⟩
  | 64 => ⟨S4x22350x1, .f32⟩
  | 65 => ⟨S4x22350x2, .f32⟩
  | 66 => ⟨S4x22350x614, .f32⟩
  | _ => ⟨S4x150x150, .f32⟩

abbrev hbmTy (i : Nat) : BufTy := match i / 128 with
  | 0 => hbmTy0_0 i
  | 1 => hbmTy0_1 i
  | 2 => hbmTy0_2 i
  | _ => ⟨S4x150x150, .f32⟩

abbrev bufTy : (tb : Table) → Fin (tcTables nBuf tb) → BufTy
  | .hbm, ⟨i, _⟩ => hbmTy i
  | _, _ => ⟨S4x150x150, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v27 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v28 : Ref sig .tc := ⟨.hbm, 85, rfl⟩
abbrev main_v29 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v30 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v31 : Ref sig .tc := ⟨.hbm, 132, rfl⟩
abbrev main_v32 : Ref sig .tc := ⟨.hbm, 133, rfl⟩
abbrev main_call4_c : Ref sig .tc := ⟨.hbm, 134, rfl⟩
abbrev main_call4_v0 : Ref sig .tc := ⟨.hbm, 135, rfl⟩
abbrev main_call4_v1 : Ref sig .tc := ⟨.hbm, 136, rfl⟩
abbrev main_call4_c_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_c_1 : Ref sig .tc := ⟨.hbm, 142, rfl⟩
abbrev main_call4_c_2 : Ref sig .tc := ⟨.hbm, 143, rfl⟩
abbrev main_call4_v6 : Ref sig .tc := ⟨.hbm, 144, rfl⟩
abbrev main_call4_v7 : Ref sig .tc := ⟨.hbm, 145, rfl⟩
abbrev main_call4_v8 : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_c_3 : Ref sig .tc := ⟨.hbm, 150, rfl⟩
abbrev main_call4_v12 : Ref sig .tc := ⟨.hbm, 151, rfl⟩
abbrev main_call4_v13 : Ref sig .tc := ⟨.hbm, 152, rfl⟩
abbrev main_call4_v14 : Ref sig .tc := ⟨.hbm, 153, rfl⟩
abbrev main_call4_cst : Ref sig .tc := ⟨.hbm, 154, rfl⟩
abbrev main_call4_v15 : Ref sig .tc := ⟨.hbm, 155, rfl⟩
abbrev main_v33 : Ref sig .tc := ⟨.hbm, 156, rfl⟩
abbrev main_call5_c : Ref sig .tc := ⟨.hbm, 157, rfl⟩
abbrev main_call5_v0 : Ref sig .tc := ⟨.hbm, 158, rfl⟩
abbrev main_call5_v1 : Ref sig .tc := ⟨.hbm, 159, rfl⟩
abbrev main_call5_c_0 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_c_1 : Ref sig .tc := ⟨.hbm, 165, rfl⟩
abbrev main_call5_c_2 : Ref sig .tc := ⟨.hbm, 166, rfl⟩
abbrev main_call5_v6 : Ref sig .tc := ⟨.hbm, 167, rfl⟩
abbrev main_call5_v7 : Ref sig .tc := ⟨.hbm, 168, rfl⟩
abbrev main_call5_v8 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_c_3 : Ref sig .tc := ⟨.hbm, 173, rfl⟩
abbrev main_call5_v12 : Ref sig .tc := ⟨.hbm, 174, rfl⟩
abbrev main_call5_v13 : Ref sig .tc := ⟨.hbm, 175, rfl⟩
abbrev main_call5_v14 : Ref sig .tc := ⟨.hbm, 176, rfl⟩
abbrev main_call5_cst : Ref sig .tc := ⟨.hbm, 177, rfl⟩
abbrev main_call5_v15 : Ref sig .tc := ⟨.hbm, 178, rfl⟩
abbrev main_v34 : Ref sig .tc := ⟨.hbm, 179, rfl⟩
abbrev main_v35 : Ref sig .tc := ⟨.hbm, 180, rfl⟩
abbrev main_call6_c : Ref sig .tc := ⟨.hbm, 181, rfl⟩
abbrev main_call6_v0 : Ref sig .tc := ⟨.hbm, 182, rfl⟩
abbrev main_call6_v1 : Ref sig .tc := ⟨.hbm, 183, rfl⟩
abbrev main_call6_c_0 : Ref sig .tc := ⟨.hbm, 184, rfl⟩
abbrev main_call6_v2 : Ref sig .tc := ⟨.hbm, 185, rfl⟩
abbrev main_call6_v3 : Ref sig .tc := ⟨.hbm, 186, rfl⟩
abbrev main_call6_v4 : Ref sig .tc := ⟨.hbm, 187, rfl⟩
abbrev main_call6_v5 : Ref sig .tc := ⟨.hbm, 188, rfl⟩
abbrev main_call6_c_1 : Ref sig .tc := ⟨.hbm, 189, rfl⟩
abbrev main_call6_c_2 : Ref sig .tc := ⟨.hbm, 190, rfl⟩
abbrev main_call6_v6 : Ref sig .tc := ⟨.hbm, 191, rfl⟩
abbrev main_call6_v7 : Ref sig .tc := ⟨.hbm, 192, rfl⟩
abbrev main_call6_v8 : Ref sig .tc := ⟨.hbm, 193, rfl⟩
abbrev main_call6_v9 : Ref sig .tc := ⟨.hbm, 194, rfl⟩
abbrev main_call6_v10 : Ref sig .tc := ⟨.hbm, 195, rfl⟩
abbrev main_call6_v11 : Ref sig .tc := ⟨.hbm, 196, rfl⟩
abbrev main_call6_c_3 : Ref sig .tc := ⟨.hbm, 197, rfl⟩
abbrev main_call6_v12 : Ref sig .tc := ⟨.hbm, 198, rfl⟩
abbrev main_call6_v13 : Ref sig .tc := ⟨.hbm, 199, rfl⟩
abbrev main_call6_v14 : Ref sig .tc := ⟨.hbm, 200, rfl⟩
abbrev main_call6_cst : Ref sig .tc := ⟨.hbm, 201, rfl⟩
abbrev main_call6_v15 : Ref sig .tc := ⟨.hbm, 202, rfl⟩
abbrev main_v36 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_v14 : Ref sig .tc := ⟨.hbm, 223, rfl⟩
abbrev main_call7_cst : Ref sig .tc := ⟨.hbm, 224, rfl⟩
abbrev main_call7_v15 : Ref sig .tc := ⟨.hbm, 225, rfl⟩
abbrev main_v37 : Ref sig .tc := ⟨.hbm, 226, rfl⟩
abbrev main_v38 : Ref sig .tc := ⟨.hbm, 227, rfl⟩
abbrev main_call8_c : Ref sig .tc := ⟨.hbm, 228, rfl⟩
abbrev main_call8_v0 : Ref sig .tc := ⟨.hbm, 229, rfl⟩
abbrev main_call8_v1 : Ref sig .tc := ⟨.hbm, 230, rfl⟩
abbrev main_call8_c_0 : Ref sig .tc := ⟨.hbm, 231, rfl⟩
abbrev main_call8_v2 : Ref sig .tc := ⟨.hbm, 232, rfl⟩
abbrev main_call8_v3 : Ref sig .tc := ⟨.hbm, 233, rfl⟩
abbrev main_call8_v4 : Ref sig .tc := ⟨.hbm, 234, rfl⟩
abbrev main_call8_v5 : Ref sig .tc := ⟨.hbm, 235, rfl⟩
abbrev main_call8_c_1 : Ref sig .tc := ⟨.hbm, 236, rfl⟩
abbrev main_call8_c_2 : Ref sig .tc := ⟨.hbm, 237, rfl⟩
abbrev main_call8_v6 : Ref sig .tc := ⟨.hbm, 238, rfl⟩
abbrev main_call8_v7 : Ref sig .tc := ⟨.hbm, 239, rfl⟩
abbrev main_call8_v8 : Ref sig .tc := ⟨.hbm, 240, rfl⟩
abbrev main_call8_v9 : Ref sig .tc := ⟨.hbm, 241, rfl⟩
abbrev main_call8_v10 : Ref sig .tc := ⟨.hbm, 242, rfl⟩
abbrev main_call8_v11 : Ref sig .tc := ⟨.hbm, 243, rfl⟩
abbrev main_call8_c_3 : Ref sig .tc := ⟨.hbm, 244, rfl⟩
abbrev main_call8_v12 : Ref sig .tc := ⟨.hbm, 245, rfl⟩
abbrev main_call8_v13 : Ref sig .tc := ⟨.hbm, 246, rfl⟩
abbrev main_call8_v14 : Ref sig .tc := ⟨.hbm, 247, rfl⟩
abbrev main_call8_cst : Ref sig .tc := ⟨.hbm, 248, rfl⟩
abbrev main_call8_v15 : Ref sig .tc := ⟨.hbm, 249, rfl⟩
abbrev main_v39 : Ref sig .tc := ⟨.hbm, 250, rfl⟩
abbrev main_call9_c : Ref sig .tc := ⟨.hbm, 251, rfl⟩
abbrev main_call9_v0 : Ref sig .tc := ⟨.hbm, 252, rfl⟩
abbrev main_call9_v1 : Ref sig .tc := ⟨.hbm, 253, rfl⟩
abbrev main_call9_c_0 : Ref sig .tc := ⟨.hbm, 254, rfl⟩
abbrev main_call9_v2 : Ref sig .tc := ⟨.hbm, 255, rfl⟩
abbrev main_call9_v3 : Ref sig .tc := ⟨.hbm, 256, rfl⟩
abbrev main_call9_v4 : Ref sig .tc := ⟨.hbm, 257, rfl⟩
abbrev main_call9_v5 : Ref sig .tc := ⟨.hbm, 258, rfl⟩
abbrev main_call9_c_1 : Ref sig .tc := ⟨.hbm, 259, rfl⟩
abbrev main_call9_c_2 : Ref sig .tc := ⟨.hbm, 260, rfl⟩
abbrev main_call9_v6 : Ref sig .tc := ⟨.hbm, 261, rfl⟩
abbrev main_call9_v7 : Ref sig .tc := ⟨.hbm, 262, rfl⟩
abbrev main_call9_v8 : Ref sig .tc := ⟨.hbm, 263, rfl⟩
abbrev main_call9_v9 : Ref sig .tc := ⟨.hbm, 264, rfl⟩
abbrev main_call9_v10 : Ref sig .tc := ⟨.hbm, 265, rfl⟩
abbrev main_call9_v11 : Ref sig .tc := ⟨.hbm, 266, rfl⟩
abbrev main_call9_c_3 : Ref sig .tc := ⟨.hbm, 267, rfl⟩
abbrev main_call9_v12 : Ref sig .tc := ⟨.hbm, 268, rfl⟩
abbrev main_call9_v13 : Ref sig .tc := ⟨.hbm, 269, rfl⟩
abbrev main_call9_v14 : Ref sig .tc := ⟨.hbm, 270, rfl⟩
abbrev main_call9_cst : Ref sig .tc := ⟨.hbm, 271, rfl⟩
abbrev main_call9_v15 : Ref sig .tc := ⟨.hbm, 272, rfl⟩
abbrev main_v40 : Ref sig .tc := ⟨.hbm, 273, rfl⟩
abbrev main_v41 : Ref sig .tc := ⟨.hbm, 274, rfl⟩
abbrev main_call10_c : Ref sig .tc := ⟨.hbm, 275, rfl⟩
abbrev main_call10_v0 : Ref sig .tc := ⟨.hbm, 276, rfl⟩
abbrev main_call10_v1 : Ref sig .tc := ⟨.hbm, 277, rfl⟩
abbrev main_call10_c_0 : Ref sig .tc := ⟨.hbm, 278, rfl⟩
abbrev main_call10_v2 : Ref sig .tc := ⟨.hbm, 279, rfl⟩
abbrev main_call10_v3 : Ref sig .tc := ⟨.hbm, 280, rfl⟩
abbrev main_call10_v4 : Ref sig .tc := ⟨.hbm, 281, rfl⟩
abbrev main_call10_v5 : Ref sig .tc := ⟨.hbm, 282, rfl⟩
abbrev main_call10_c_1 : Ref sig .tc := ⟨.hbm, 283, rfl⟩
abbrev main_call10_c_2 : Ref sig .tc := ⟨.hbm, 284, rfl⟩
abbrev main_call10_v6 : Ref sig .tc := ⟨.hbm, 285, rfl⟩
abbrev main_call10_v7 : Ref sig .tc := ⟨.hbm, 286, rfl⟩
abbrev main_call10_v8 : Ref sig .tc := ⟨.hbm, 287, rfl⟩
abbrev main_call10_v9 : Ref sig .tc := ⟨.hbm, 288, rfl⟩
abbrev main_call10_v10 : Ref sig .tc := ⟨.hbm, 289, rfl⟩
abbrev main_call10_v11 : Ref sig .tc := ⟨.hbm, 290, rfl⟩
abbrev main_call10_c_3 : Ref sig .tc := ⟨.hbm, 291, rfl⟩
abbrev main_call10_v12 : Ref sig .tc := ⟨.hbm, 292, rfl⟩
abbrev main_call10_v13 : Ref sig .tc := ⟨.hbm, 293, rfl⟩
abbrev main_call10_v14 : Ref sig .tc := ⟨.hbm, 294, rfl⟩
abbrev main_call10_cst : Ref sig .tc := ⟨.hbm, 295, rfl⟩
abbrev main_call10_v15 : Ref sig .tc := ⟨.hbm, 296, rfl⟩
abbrev main_v42 : Ref sig .tc := ⟨.hbm, 297, rfl⟩
abbrev main_call11_c : Ref sig .tc := ⟨.hbm, 298, rfl⟩
abbrev main_call11_v0 : Ref sig .tc := ⟨.hbm, 299, rfl⟩
abbrev main_call11_v1 : Ref sig .tc := ⟨.hbm, 300, rfl⟩
abbrev main_call11_c_0 : Ref sig .tc := ⟨.hbm, 301, rfl⟩
abbrev main_call11_v2 : Ref sig .tc := ⟨.hbm, 302, rfl⟩
abbrev main_call11_v3 : Ref sig .tc := ⟨.hbm, 303, rfl⟩
abbrev main_call11_v4 : Ref sig .tc := ⟨.hbm, 304, rfl⟩
abbrev main_call11_v5 : Ref sig .tc := ⟨.hbm, 305, rfl⟩
abbrev main_call11_c_1 : Ref sig .tc := ⟨.hbm, 306, rfl⟩
abbrev main_call11_c_2 : Ref sig .tc := ⟨.hbm, 307, rfl⟩
abbrev main_call11_v6 : Ref sig .tc := ⟨.hbm, 308, rfl⟩
abbrev main_call11_v7 : Ref sig .tc := ⟨.hbm, 309, rfl⟩
abbrev main_call11_v8 : Ref sig .tc := ⟨.hbm, 310, rfl⟩
abbrev main_call11_v9 : Ref sig .tc := ⟨.hbm, 311, rfl⟩
abbrev main_call11_v10 : Ref sig .tc := ⟨.hbm, 312, rfl⟩
abbrev main_call11_v11 : Ref sig .tc := ⟨.hbm, 313, rfl⟩
abbrev main_call11_c_3 : Ref sig .tc := ⟨.hbm, 314, rfl⟩
abbrev main_call11_v12 : Ref sig .tc := ⟨.hbm, 315, rfl⟩
abbrev main_call11_v13 : Ref sig .tc := ⟨.hbm, 316, rfl⟩
abbrev main_call11_v14 : Ref sig .tc := ⟨.hbm, 317, rfl⟩
abbrev main_call11_cst : Ref sig .tc := ⟨.hbm, 318, rfl⟩
abbrev main_call11_v15 : Ref sig .tc := ⟨.hbm, 319, rfl⟩
abbrev main_v43 : Ref sig .tc := ⟨.hbm, 320, rfl⟩
abbrev main_v44 : Ref sig .tc := ⟨.hbm, 321, rfl⟩
abbrev main_v45 : Ref sig .tc := ⟨.hbm, 322, rfl⟩

abbrev nD : Nat := 1
abbrev τ : Topo := Topo.v7x

variable {F : FTy → Type} [FloatOps F]
-- ==== Proof.Ki.Base.lean ====
/-
  Vocabulary shared by the modules about the program at the extended reals: the resource algebra, a buffer held
  whole, and the levels (none).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.ValueKit
public import Idealize.ShloMosaic.Lib.Tactic

@[expose] public section

noncomputable section

namespace Cert.Proof.Ki

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.Sem
open Idealize.ShloMosaic.Rounds

/-- The resource algebra: the pipelines' rounds beside the counters that the copies' tokens come from. -/
abbrev UU : Type := UR sig nD τ × Counters

/-- Where the pipelines' rounds sit in the whole algebra. -/
abbrev EP {F : FTy → Type} : Emb (UR sig nD τ) (MT nD τ sig Unit (Elt F) ℕ UU ℕ) := embL

variable {F : FTy → Type} [FloatOps F]

local notation "𝕄" => MT nD τ sig Unit (Elt F) ℕ UU ℕ

/-- The contents of the buffer behind `M` on core `c`. -/
abbrev Bf (c : Dev nD) {sp : Space} {S : Shape} {e : EltTy} (M : Memref sig .tc sp S e) : Type :=
  Buf (Elt F) (M.view.loc (c : Thread nD τ))

/-- The buffer behind `M` on core `c`, all of it, holding `f`. -/
abbrev pt (c : Dev nD) {sp : Space} {S : Shape} {e : EltTy} (M : Memref sig .tc sp S e) (f : Bf (F := F) c M) : sProp 𝕄 :=
  M.view.loc (c : Thread nD τ) ↦{fullShare} f

/-- A valuation of the buffers of core `c`. -/
abbrev Vals : Type := (c : Dev nD) → (b : Ref sig .tc) → Buf (Elt F) ((c : Thread nD τ).loc b)

/-- The kernels' variants: none. -/
abbrev 𝒱₀ : Variants := Variants.none
/-- No level is assigned: no core owes another anything. -/
abbrev L : GSem nD τ sig → Finset Unit := fun _ => ∅
/-- The level of every cell. -/
abbrev lv : GSem nD τ sig → Unit → ℕ := fun _ _ => 0

/-- What rides along between the items beside the buffers: the core owing nothing. -/
abbrev R (c : Dev nD) : sProp 𝕄 := iprop(∃ W, owes (c : Thread nD τ) (0 : CellTallies nD τ sig Unit) W)

end Cert.Proof.Ki

end
-- ==== Proof.Ki.Region0.lean ====
/-
  The first pallas_call: what its body leaves in the two output buffers, its proof data from any valuation of the
  buffers, and the body's obligation at every point.
-/
module

public import proofs.«01_k».proof.Proof.Ki.Base

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- The rectangle of a whole output block. -/
abbrev r0full : Rect S1x150x614 := Rect.unit (s := S1x150x614) ![0, 0, 0] S1x150x614.size inb_S1x150x614_S1x150x614_0_0_0
/-- The rectangle of a whole block of the first argument. -/
abbrev r0a : Rect S1x150x150 := Rect.unit (s := S1x150x150) ![0, 0, 0] S1x150x150.size inb_S1x150x150_S1x150x150_0_0_0
/-- The rectangle of a whole block of the second argument. -/
abbrev r0b : Rect S1x150x4 := Rect.unit (s := S1x150x4) ![0, 0, 0] S1x150x4.size inb_S1x150x4_S1x150x4_0_0_0

/-- The first output buffer after the body, from the two input blocks. -/
def out0x (x0 : Vec F S1x150x150 .f32) (x1 : Vec F S1x150x4 .f32) : Vec F S1x150x614 .f32 :=
  View.canon [⟨r0full, k0_pay10 (View.ld x0 r0a) (View.ld x1 r0b)⟩]
/-- The second output buffer after the body, from the two input blocks. -/
def out0y (x0 : Vec F S1x150x150 .f32) (x1 : Vec F S1x150x4 .f32) : Vec F S1x150x614 .f32 :=
  View.canon [⟨r0full, k0_pay11 (View.ld x0 r0a) (View.ld x1 r0b)⟩]

/-- One store of the whole block covers it. -/
theorem cover0 (p : Vec F S1x150x614 .f32) (y : S1x150x614.Idx) :
    ∃ pc ∈ ([⟨r0full, p⟩] : List (View.Piece (Elt F) S1x150x614 .f32)), y ∈ pc.1.set :=
  View.cover_of_tiled [⟨r0full, p⟩] S1x150x614.size (by rfl) y

set_option maxHeartbeats 1000000 in
/-- The first body on whole staging buffers: from the inputs' at `x0`, `x1` and the outputs' at anything it returns with
    the inputs' as they were and the outputs' at `out0x`, `out0y` of them. -/
theorem sound0 (c : Dev nD) (E : Set ℕ) (i : grid0.Coords) (M0 : Memref sig .tc .vmem S1x150x150 .f32) (h0 : M0.IsWhole)
    (M1 : Memref sig .tc .vmem S1x150x4 .f32) (h1 : M1.IsWhole) (M2 : Memref sig .tc .vmem S1x150x614 .f32) (h2 : M2.IsWhole)
    (M3 : Memref sig .tc .vmem S1x150x614 .f32) (h3 : M3.IsWhole) (x0 : Vec F S1x150x150 .f32) (x1 : Vec F S1x150x4 .f32)
    (K : PUnit → sProp 𝕄) :
    iprop(owns (c : Thread nD τ) M0 fullShare x0 ∗ owns (c : Thread nD τ) M1 fullShare x1
        ∗ (∃ d, owns (c : Thread nD τ) M2 fullShare d) ∗ (∃ d, owns (c : Thread nD τ) M3 fullShare d)
        ∗ (iprop(owns (c : Thread nD τ) M0 fullShare x0 ∗ owns (c : Thread nD τ) M1 fullShare x1
            ∗ owns (c : Thread nD τ) M2 fullShare (out0x x0 x1) ∗ owns (c : Thread nD τ) M3 fullShare (out0y x0 x1)) -∗ K ⟨⟩))
      ⊢ wp frame (wpE (defs₀ (F := F)) 𝒱₀ c none) E (cc0__feat_body i M0 h0 M1 h1 M2 h2 M3 h3) K := by
  rw [cc0__feat_body_eq_skeleton]; unfold cc0__feat_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- Window `w`'s block at point `t`, read off its array as the region finds it. -/
def iblk0 (V : Vals (F := F)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The proof data of the first pipeline on core `c`: the arrays as the region finds them; after the body the inputs'
    buffers at their blocks and the outputs' at `out0x`, `out0y` of those; the invariant the buffers of the other
    pipelines; nothing owed. -/
def dat0 (V : Vals (F := F)) (c : Dev nD) : Dat τ (Elt F) Unit ℕ UU ℕ cfg0 c where
  A w := V c (Pipeline.arrRef spec0 w)
  after w t := match w with
    | ⟨0, _⟩ => iblk0 V c 0 t
    | ⟨1, _⟩ => iblk0 V c 1 t
    | ⟨2, _⟩ => out0x (iblk0 V c 0 t) (iblk0 V c 1 t)
    | ⟨3, _⟩ => out0y (iblk0 V c 0 t) (iblk0 V c 1 t)
  Φ _ := Pipeline.scopedRest (Ix := Unit) (Name := ℕ) (U := UU) (Lvl := ℕ) (Val := Elt F) spec0 c
  q _ := fullShare
  owed _ := 0

variable (V : Vals (F := F))

/-- The proof data's arrays are the valuation's. -/
theorem A_eq0 (c : Dev nD) (w : Fin cfg0.W) : (dat0 V c).A w = V c (Pipeline.arrRef spec0 w) := by dsimp only [dat0]
/-- What the body leaves in the first input's buffer. -/
theorem after0_0 (c : Dev nD) (t : Fin cfg0.N) : (dat0 V c).after 0 t = iblk0 V c 0 t := by dsimp only [dat0]
/-- What the body leaves in the second input's buffer. -/
theorem after0_1 (c : Dev nD) (t : Fin cfg0.N) : (dat0 V c).after 1 t = iblk0 V c 1 t := by dsimp only [dat0]
/-- What the body leaves in the first output's buffer. -/
theorem after0_2 (c : Dev nD) (t : Fin cfg0.N) : (dat0 V c).after 2 t = out0x (iblk0 V c 0 t) (iblk0 V c 1 t) := by
  dsimp only [dat0]
/-- What the body leaves in the second output's buffer. -/
theorem after0_3 (c : Dev nD) (t : Fin cfg0.N) : (dat0 V c).after 3 t = out0y (iblk0 V c 0 t) (iblk0 V c 1 t) := by
  dsimp only [dat0]

/-- The first input's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- The second input's buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The body at any point, over what the pipeline hands it and takes back. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) 𝒱₀ c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t` is the first body. -/
theorem defs₀_row0 (t : Fin cfg0.N) :
    defs₀ (F := F) .tc cfg0.body (cfg0.bodyArgs t (cfg0.slots t)) = bodyAt0 t := by
  unfold defs₀; rw [Defs.onTc_tc]

/-- The first pipeline's body obligation. -/
theorem body_obligation0 (c : Dev nD) : BodyObligation (dat0 V c) (defs₀ (F := F)) 𝒱₀ () Set.univ := fun t => by
  rw [bigSep_W0, bigSep_W0, defs₀_row0]
  exact triple_restated (sound_body0 V c t) rfl .rfl fun _ => .rfl

end Cert.Proof.Ki

end
-- ==== Proof.Ki.Block.lean ====
/-
  The block of pair rows that both the second and the third body compute eight times over, as one function of the word
  compared against, the two stretches of second-factor rows and the first-factor row.
-/
module

public import proofs.«01_k».proof.Proof.Ki.Base

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- The 149 pair rows of one first index `x`: row `r` is the second factor's row `r` where `r < x` (from `lo`) and its
    row `r + 1` otherwise (from `hi`), plus the first factor's row. -/
def pairRows (x : BitVec 32) (lo hi : Vec F S1x149x614 .f32) (row : Vec F S1x1x614 .f32) : FVec F S149x614 .f32 :=
  addf (select (broadcastTo S149x614 (shapeCast S149x1 (cmpi .slt (iota .tc S149x1 32 [0] iota_S149x1_d0_w32)
      (broadcast S149x1 x)) shapeCasts_S149x1_S149x1) broadcasts_S149x1_S149x614)
      (shapeCast S149x614 lo shapeCasts_S1x149x614_S149x614) (shapeCast S149x614 hi shapeCasts_S1x149x614_S149x614))
    (broadcastTo S149x614 (shapeCast S1x614 (shapeCast S1x614 row shapeCasts_S1x1x614_S1x614) shapeCasts_S1x614_S1x614)
      broadcasts_S1x614_S149x614)

end Cert.Proof.Ki

end
-- ==== Proof.Ki.Step.lean ====
/-
  The body of the second pallas_call at one grid point: what it puts in each of its four buffers, and its triples at the
  first point (nothing to collect), at the points between, and at the last (everything collected before it returns).
-/
module

public import proofs.«01_k».proof.Proof.Ki.Block

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- The word of the chunk that slot `ii` fills at a point. -/
abbrev chunkW (i : grid1.Coords) (ii : BitVec 32) : BitVec 32 :=
  Scalar.addi (Scalar.muli (BitVec.ofNat 32 (i 0).val) 4#32) ii
/-- The word of the `j`-th first index of that chunk. -/
abbrev firstW (i : grid1.Coords) (ii j : BitVec 32) : BitVec 32 :=
  Scalar.addi (Scalar.muli (Scalar.remsi (chunkW i ii) 18#32) 8#32) j

/-- The second-factor rows 0 to 148 that slot `ii` reads. -/
abbrev r1lo (i : grid1.Coords) (r : Fin 4) : Rect S4x150x614 :=
  Rect.unit (s := S4x150x614) (k1_off2 i (BitVec.ofNat 32 r.val)) S1x149x614.size (k1_off2_inb i r)
/-- The second-factor rows 1 to 149 that slot `ii` reads. -/
abbrev r1hi (i : grid1.Coords) (r : Fin 4) : Rect S4x150x614 :=
  Rect.unit (s := S4x150x614) (k1_off3 i (BitVec.ofNat 32 r.val)) S1x149x614.size (k1_off3_inb i r)
/-- The first-factor row that slot `ii` reads for its `j`-th block. -/
abbrev r1row (i : grid1.Coords) (r : Fin 4) (r' : Fin 8) : Rect S4x150x614 :=
  Rect.unit (s := S4x150x614) (k1_off4 i (BitVec.ofNat 32 r.val) (BitVec.ofNat 32 r'.val)) S1x1x614.size (k1_off4_inb i r r')
/-- A buffer's rows from 0 on, 149 of them. -/
abbrev r1o0 : Rect S1192x614 := Rect.unit (s := S1192x614) ![0, 0] S149x614.size inb_S1192x614_S149x614_0_0
/-- A buffer's rows from 149 on, 149 of them. -/
abbrev r1o1 : Rect S1192x614 := Rect.unit (s := S1192x614) ![149, 0] S149x614.size inb_S1192x614_S149x614_149_0
/-- A buffer's rows from 298 on, 149 of them. -/
abbrev r1o2 : Rect S1192x614 := Rect.unit (s := S1192x614) ![298, 0] S149x614.size inb_S1192x614_S149x614_298_0
/-- A buffer's rows from 447 on, 149 of them. -/
abbrev r1o3 : Rect S1192x614 := Rect.unit (s := S1192x614) ![447, 0] S149x614.size inb_S1192x614_S149x614_447_0
/-- A buffer's rows from 596 on, 149 of them. -/
abbrev r1o4 : Rect S1192x614 := Rect.unit (s := S1192x614) ![596, 0] S149x614.size inb_S1192x614_S149x614_596_0
/-- A buffer's rows from 745 on, 149 of them. -/
abbrev r1o5 : Rect S1192x614 := Rect.unit (s := S1192x614) ![745, 0] S149x614.size inb_S1192x614_S149x614_745_0
/-- A buffer's rows from 894 on, 149 of them. -/
abbrev r1o6 : Rect S1192x614 := Rect.unit (s := S1192x614) ![894, 0] S149x614.size inb_S1192x614_S149x614_894_0
/-- A buffer's rows from 1043 on, 149 of them. -/
abbrev r1o7 : Rect S1192x614 := Rect.unit (s := S1192x614) ![1043, 0] S149x614.size inb_S1192x614_S149x614_1043_0

/-- One block slot `r` stores: the pair rows of its `r'`-th first index. -/
def blk1 (i : grid1.Coords) (r : Fin 4) (r' : Fin 8) (x0 x1 : Vec F S4x150x614 .f32) : FVec F S149x614 .f32 :=
  shapeCast S149x614 (pairRows (firstW i (BitVec.ofNat 32 r.val) (BitVec.ofNat 32 r'.val)) (View.ld x1 (r1lo i r)) (View.ld x1 (r1hi i r))
    (View.ld x0 (r1row i r r'))) shapeCasts_S149x614_S149x614

/-- Slot `r`'s buffer once filled, from the two inputs: its eight stores, last first. -/
def out1 (i : grid1.Coords) (r : Fin 4) (x0 x1 : Vec F S4x150x614 .f32) : Vec F S1192x614 .f32 :=
  View.canon [⟨r1o7, blk1 i r 7 x0 x1⟩,
    ⟨r1o6, blk1 i r 6 x0 x1⟩,
    ⟨r1o5, blk1 i r 5 x0 x1⟩,
    ⟨r1o4, blk1 i r 4 x0 x1⟩,
    ⟨r1o3, blk1 i r 3 x0 x1⟩,
    ⟨r1o2, blk1 i r 2 x0 x1⟩,
    ⟨r1o1, blk1 i r 1 x0 x1⟩,
    ⟨r1o0, blk1 i r 0 x0 x1⟩]

/-- Eight stores of 149 rows cover a buffer. -/
theorem cover1 (p0 p1 p2 p3 p4 p5 p6 p7 : Vec F S149x614 .f32) (y : S1192x614.Idx) :
    ∃ pc ∈ ([⟨r1o7, p7⟩, ⟨r1o6, p6⟩, ⟨r1o5, p5⟩, ⟨r1o4, p4⟩, ⟨r1o3, p3⟩, ⟨r1o2, p2⟩, ⟨r1o1, p1⟩, ⟨r1o0, p0⟩] : List (View.Piece (Elt F) S1192x614 .f32)), y ∈ pc.1.set :=
  View.cover_of_tiled [⟨r1o7, p7⟩, ⟨r1o6, p6⟩, ⟨r1o5, p5⟩, ⟨r1o4, p4⟩, ⟨r1o3, p3⟩, ⟨r1o2, p2⟩, ⟨r1o1, p1⟩, ⟨r1o0, p0⟩] S149x614.size (by rfl) y

/-- Slot 0's semaphore. -/
abbrev sem1_0 : DmaSem sig := ((cc1_scratch4.slice (Rect.unit (s := S4) ![0] S1.size inb_S4_S1_0)).squeeze S_ squeezes_S1_S_).sem
/-- Slot 1's semaphore. -/
abbrev sem1_1 : DmaSem sig := ((cc1_scratch4.slice (Rect.unit (s := S4) ![1] S1.size inb_S4_S1_1)).squeeze S_ squeezes_S1_S_).sem
/-- Slot 2's semaphore. -/
abbrev sem1_2 : DmaSem sig := ((cc1_scratch4.slice (Rect.unit (s := S4) ![2] S1.size inb_S4_S1_2)).squeeze S_ squeezes_S1_S_).sem
/-- Slot 3's semaphore. -/
abbrev sem1_3 : DmaSem sig := ((cc1_scratch4.slice (Rect.unit (s := S4) ![3] S1.size inb_S4_S1_3)).squeeze S_ squeezes_S1_S_).sem
/-- The chunk of the result that slot `r` writes at a point, as a memref. -/
abbrev dst1 (i : grid1.Coords) (r : Fin 4) : Memref sig .tc .hbm S1192x614 .f32 :=
  ((Memref.whole main_v1 : Memref sig .tc .hbm S4x22350x614 .f32).slice (Rect.unit (s := S4x22350x614) (k1_off5 i (BitVec.ofNat 32 r.val)) S1x1192x614.size (k1_off5_inb i r)) (fun _ => rfl)).squeeze
    S1192x614 squeezes_S1x1192x614_S1192x614
/-- The credit of one chunk's copy. -/
abbrev N1 : ℕ := 95360

/-- A memref's own elements of its buffer, holding `f`. -/
abbrev own (c : Dev nD) {sp : Space} {S : Shape} {e : EltTy} (M : Memref sig .tc sp S e) (f : Bf (F := F) c M) : sProp 𝕄 :=
  M.view.loc (c : Thread nD τ) ↦[M.view.set]{fullShare} f

/-- Chunk `r`'s elements of the result, once the chunk's copy has landed over `g`. -/
abbrev landed1 (c : Dev nD) (i : grid1.Coords) (r : Fin 4) (g : Bf (F := F) c (dst1 i r)) (x0 x1 : Vec F S4x150x614 .f32) : sProp 𝕄 :=
  own c (dst1 i r) ((dst1 i r).view.writes (Elt F) g [⟨Rect.whole S1192x614, out1 i r x0 x1⟩])

/-- A copy in flight on a slot's semaphore, delivering `D` and the slot's buffer. -/
abbrev fl (c : Dev nD) (sm : DmaSem sig) (D D' : sProp 𝕄) : sProp 𝕄 :=
  Transfers.Flight (countersEmb (U := UU)) (c : Thread nD τ) (.dma sm) () N1 iprop(D ∗ D')

/-- A copy in flight of a filled buffer, its payload and the buffer's contents put in the form the next point takes. -/
theorem fl_intro (c : Dev nD) (i : grid1.Coords) (r : Fin 4) (sm : DmaSem sig) {B : Memref sig .tc .vmem S1192x614 .f32}
    {g : Bf (F := F) c (dst1 i r)} {v : Vec F S1192x614 .f32} {b : Bf (F := F) c B} {x0 x1 : Vec F S4x150x614 .f32}
    (hv : v = out1 i r x0 x1) :
    fl c sm (own c (dst1 i r) ((dst1 i r).view.writes (Elt F) g [⟨Rect.whole S1192x614, v⟩])) (own c B b)
      ⊢ iprop(∃ b, fl c sm (landed1 c i r g x0 x1) (own c B b)) := by
  subst hv
  iintro H
  iexists b
  iexact H

/-- A landed chunk in the form the next point takes. -/
theorem landed_intro (c : Dev nD) (i : grid1.Coords) (r : Fin 4) {g : Bf (F := F) c (dst1 i r)} {v : Vec F S1192x614 .f32}
    {x0 x1 : Vec F S4x150x614 .f32} (hv : v = out1 i r x0 x1) :
    own c (dst1 i r) ((dst1 i r).view.writes (Elt F) g [⟨Rect.whole S1192x614, v⟩]) ⊢ landed1 c i r g x0 x1 := by
  subst hv
  iintro H
  iexact H

/-- The condition under which the body collects everything before it returns. -/
abbrev lastC (i : grid1.Coords) : BitVec 1 :=
  Scalar.cmpi .ne (Scalar.extui (Scalar.cmpi .eq (BitVec.ofNat 32 (i 0).val) 17#32) : BitVec 32) 0#32

set_option maxHeartbeats 8000000 in
/-- The body at a point where nothing is in flight. -/
theorem step_first (c : Dev nD) (i : grid1.Coords) (hc1 : ¬ k1_cond1 i = 1#1) (hc2 : ¬ k1_cond2 i = 1#1) (hc3 : ¬ k1_cond3 i = 1#1) (hc4 : ¬ k1_cond4 i = 1#1) (hl : ¬ lastC i = 1#1)
    (M0 : Memref sig .tc .vmem S4x150x614 .f32) (h0 : M0.IsWhole) (M1 : Memref sig .tc .vmem S4x150x614 .f32) (h1 : M1.IsWhole)
    (f0 : Bf (F := F) c M0) (f1 : Bf (F := F) c M1)
    (b0 : Bf (F := F) c (Memref.whole cc1_scratch0 : Memref sig .tc .vmem S1192x614 .f32)) (g0 : Bf (F := F) c (dst1 i 0))
    (b1 : Bf (F := F) c (Memref.whole cc1_scratch1 : Memref sig .tc .vmem S1192x614 .f32)) (g1 : Bf (F := F) c (dst1 i 1))
    (b2 : Bf (F := F) c (Memref.whole cc1_scratch2 : Memref sig .tc .vmem S1192x614 .f32)) (g2 : Bf (F := F) c (dst1 i 2))
    (b3 : Bf (F := F) c (Memref.whole cc1_scratch3 : Memref sig .tc .vmem S1192x614 .f32)) (g3 : Bf (F := F) c (dst1 i 3))
    (W : Waits sig Unit) (Q : PUnit → sProp 𝕄) :
    iprop(pt c M0 f0
        ∗ pt c M1 f1
        ∗ own c (Memref.whole cc1_scratch0 : Memref sig .tc .vmem S1192x614 .f32) b0
        ∗ semVal ((c : Thread nD τ), SemLoc.dma sem1_0) 0
        ∗ own c (dst1 i 0) g0
        ∗ own c (Memref.whole cc1_scratch1 : Memref sig .tc .vmem S1192x614 .f32) b1
        ∗ semVal ((c : Thread nD τ), SemLoc.dma sem1_1) 0
        ∗ own c (dst1 i 1) g1
        ∗ own c (Memref.whole cc1_scratch2 : Memref sig .tc .vmem S1192x614 .f32) b2
        ∗ semVal ((c : Thread nD τ), SemLoc.dma sem1_2) 0
        ∗ own c (dst1 i 2) g2
        ∗ own c (Memref.whole cc1_scratch3 : Memref sig .tc .vmem S1192x614 .f32) b3
        ∗ semVal ((c : Thread nD τ), SemLoc.dma sem1_3) 0
        ∗ own c (dst1 i 3) g3
        ∗ owes (c : Thread nD τ) (0 : CellTallies nD τ sig Unit) W
        ∗ (iprop(pt c M0 f0
            ∗ pt c M1 f1
            ∗ (∃ b, fl c sem1_0 (landed1 c i 0 g0 (M0.view.read (Elt F) f0) (M1.view.read (Elt F) f1)) (own c (Memref.whole cc1_scratch0 : Memref sig .tc .vmem S1192x614 .f32) b))
            ∗ (∃ b, fl c sem1_1 (landed1 c i 1 g1 (M0.view.read (Elt F) f0) (M1.view.read (Elt F) f1)) (own c (Memref.whole cc1_scratch1 : Memref sig .tc .vmem S1192x614 .f32) b))
            ∗ (∃ b, fl c sem1_2 (landed1 c i 2 g2 (M0.view.read (Elt F) f0) (M1.view.read (Elt F) f1)) (own c (Memref.whole cc1_scratch2 : Memref sig .tc .vmem S1192x614 .f32) b))
            ∗ (∃ b, fl c sem1_3 (landed1 c i 3 g3 (M0.view.read (Elt F) f0) (M1.view.read (Elt F) f1)) (own c (Memref.whole cc1_scratch3 : Memref sig .tc .vmem S1192x614 .f32) b))
            ∗ (∃ W, owes (c : Thread nD τ) (0 : CellTallies nD τ sig Unit) W)) -∗ Q ⟨⟩))
      ⊢ wp frame (wpE (defs₀ (F := F)) 𝒱₀ c none) Set.univ (cc1_body i M0 h0 M1 h1 (Memref.whole main_v1) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _) cc1_scratch4) Q := by
  rw [cc1_body_eq_skeleton]; unfold cc1_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
  iintro ⟨H0, H1, Hb0, Hs0, Hd0, Hb1, Hs1, Hd1, Hb2, Hs2, Hd2, Hb3, Hs3, Hd3, HO, Hk⟩
  sl_exec
  sl_step
  iapply Hk
  isplitl [H0]
  · iexact H0
  isplitl [H1]
  · iexact H1
  isplitl [Hs0]
  · iapply (fl_intro c i 0 sem1_0 (View.read_writes_eq_canon _ _ _ (cover1 _ _ _ _ _ _ _ _)))
    iexact Hs0
  isplitl [Hs1]
  · iapply (fl_intro c i 1 sem1_1 (View.read_writes_eq_canon _ _ _ (cover1 _ _ _ _ _ _ _ _)))
    iexact Hs1
  isplitl [Hs2]
  · iapply (fl_intro c i 2 sem1_2 (View.read_writes_eq_canon _ _ _ (cover1 _ _ _ _ _ _ _ _)))
    iexact Hs2
  isplitl [Hs3]
  · iapply (fl_intro c i 3 sem1_3 (View.read_writes_eq_canon _ _ _ (cover1 _ _ _ _ _ _ _ _)))
    iexact Hs3
  iexists _
  iexact HO

set_option maxHeartbeats 8000000 in
/-- The body at a point that first collects the four copies the point before started. -/
theorem step_mid (c : Dev nD) (i : grid1.Coords) (hc1 : k1_cond1 i = 1#1) (hc2 : k1_cond2 i = 1#1) (hc3 : k1_cond3 i = 1#1) (hc4 : k1_cond4 i = 1#1) (hl : ¬ lastC i = 1#1)
    (M0 : Memref sig .tc .vmem S4x150x614 .f32) (h0 : M0.IsWhole) (M1 : Memref sig .tc .vmem S4x150x614 .f32) (h1 : M1.IsWhole)
    (f0 : Bf (F := F) c M0) (f1 : Bf (F := F) c M1)
    (b0 : Bf (F := F) c (Memref.whole cc1_scratch0 : Memref sig .tc .vmem S1192x614 .f32)) (g0 : Bf (F := F) c (dst1 i 0))
    (b1 : Bf (F := F) c (Memref.whole cc1_scratch1 : Memref sig .tc .vmem S1192x614 .f32)) (g1 : Bf (F := F) c (dst1 i 1))
    (b2 : Bf (F := F) c (Memref.whole cc1_scratch2 : Memref sig .tc .vmem S1192x614 .f32)) (g2 : Bf (F := F) c (dst1 i 2))
    (b3 : Bf (F := F) c (Memref.whole cc1_scratch3 : Memref sig .tc .vmem S1192x614 .f32)) (g3 : Bf (F := F) c (dst1 i 3))
    (D0 D1 D2 D3 : sProp 𝕄) (W : Waits sig Unit) (Q : PUnit → sProp 𝕄) :
    iprop(pt c M0 f0
        ∗ pt c M1 f1
        ∗ fl c sem1_0 D0 (own c (Memref.whole cc1_scratch0 : Memref sig .tc .vmem S1192x614 .f32) b0)
        ∗ own c (dst1 i 0) g0
        ∗ fl c sem1_1 D1 (own c (Memref.whole cc1_scratch1 : Memref sig .tc .vmem S1192x614 .f32) b1)
        ∗ own c (dst1 i 1) g1
        ∗ fl c sem1_2 D2 (own c (Memref.whole cc1_scratch2 : Memref sig .tc .vmem S1192x614 .f32) b2)
        ∗ own c (dst1 i 2) g2
        ∗ fl c sem1_3 D3 (own c (Memref.whole cc1_scratch3 : Memref sig .tc .vmem S1192x614 .f32) b3)
        ∗ own c (dst1 i 3) g3
        ∗ owes (c : Thread nD τ) (0 : CellTallies nD τ sig Unit) W
        ∗ (iprop(pt c M0 f0
            ∗ pt c M1 f1
            ∗ D0
            ∗ (∃ b, fl c sem1_0 (landed1 c i 0 g0 (M0.view.read (Elt F) f0) (M1.view.read (Elt F) f1)) (own c (Memref.whole cc1_scratch0 : Memref sig .tc .vmem S1192x614 .f32) b))
            ∗ D1
            ∗ (∃ b, fl c sem1_1 (landed1 c i 1 g1 (M0.view.read (Elt F) f0) (M1.view.read (Elt F) f1)) (own c (Memref.whole cc1_scratch1 : Memref sig .tc .vmem S1192x614 .f32) b))
            ∗ D2
            ∗ (∃ b, fl c sem1_2 (landed1 c i 2 g2 (M0.view.read (Elt F) f0) (M1.view.read (Elt F) f1)) (own c (Memref.whole cc1_scratch2 : Memref sig .tc .vmem S1192x614 .f32) b))
            ∗ D3
            ∗ (∃ b, fl c sem1_3 (landed1 c i 3 g3 (M0.view.read (Elt F) f0) (M1.view.read (Elt F) f1)) (own c (Memref.whole cc1_scratch3 : Memref sig .tc .vmem S1192x614 .f32) b))
            ∗ (∃ W, owes (c : Thread nD τ) (0 : CellTallies nD τ sig Unit) W)) -∗ Q ⟨⟩))
      ⊢ wp frame (wpE (defs₀ (F := F)) 𝒱₀ c none) Set.univ (cc1_body i M0 h0 M1 h1 (Memref.whole main_v1) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _) cc1_scratch4) Q := by
  rw [cc1_body_eq_skeleton]; unfold cc1_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
  iintro ⟨H0, H1, Hs0, Hd0, Hs1, Hd1, Hs2, Hd2, Hs3, Hd3, HO, Hk⟩
  sl_exec
  sl_step
  iapply Hk
  isplitl [H0]
  · iexact H0
  isplitl [H1]
  · iexact H1
  isplitl [Hs0_dst]
  · iexact Hs0_dst
  isplitl [Hs0]
  · iapply (fl_intro c i 0 sem1_0 (View.read_writes_eq_canon _ _ _ (cover1 _ _ _ _ _ _ _ _)))
    iexact Hs0
  isplitl [Hs1_dst]
  · iexact Hs1_dst
  isplitl [Hs1]
  · iapply (fl_intro c i 1 sem1_1 (View.read_writes_eq_canon _ _ _ (cover1 _ _ _ _ _ _ _ _)))
    iexact Hs1
  isplitl [Hs2_dst]
  · iexact Hs2_dst
  isplitl [Hs2]
  · iapply (fl_intro c i 2 sem1_2 (View.read_writes_eq_canon _ _ _ (cover1 _ _ _ _ _ _ _ _)))
    iexact Hs2
  isplitl [Hs3_dst]
  · iexact Hs3_dst
  isplitl [Hs3]
  · iapply (fl_intro c i 3 sem1_3 (View.read_writes_eq_canon _ _ _ (cover1 _ _ _ _ _ _ _ _)))
    iexact Hs3
  iexists _
  iexact HO

set_option maxHeartbeats 8000000 in
/-- The body at the last point, which collects its own four copies too before it returns. -/
theorem step_last (c : Dev nD) (i : grid1.Coords) (hc1 : k1_cond1 i = 1#1) (hc2 : k1_cond2 i = 1#1) (hc3 : k1_cond3 i = 1#1) (hc4 : k1_cond4 i = 1#1) (hl : lastC i = 1#1)
    (M0 : Memref sig .tc .vmem S4x150x614 .f32) (h0 : M0.IsWhole) (M1 : Memref sig .tc .vmem S4x150x614 .f32) (h1 : M1.IsWhole)
    (f0 : Bf (F := F) c M0) (f1 : Bf (F := F) c M1)
    (b0 : Bf (F := F) c (Memref.whole cc1_scratch0 : Memref sig .tc .vmem S1192x614 .f32)) (g0 : Bf (F := F) c (dst1 i 0))
    (b1 : Bf (F := F) c (Memref.whole cc1_scratch1 : Memref sig .tc .vmem S1192x614 .f32)) (g1 : Bf (F := F) c (dst1 i 1))
    (b2 : Bf (F := F) c (Memref.whole cc1_scratch2 : Memref sig .tc .vmem S1192x614 .f32)) (g2 : Bf (F := F) c (dst1 i 2))
    (b3 : Bf (F := F) c (Memref.whole cc1_scratch3 : Memref sig .tc .vmem S1192x614 .f32)) (g3 : Bf (F := F) c (dst1 i 3))
    (D0 D1 D2 D3 : sProp 𝕄) (W : Waits sig Unit) (Q : PUnit → sProp 𝕄) :
    iprop(pt c M0 f0
        ∗ pt c M1 f1
        ∗ fl c sem1_0 D0 (own c (Memref.whole cc1_scratch0 : Memref sig .tc .vmem S1192x614 .f32) b0)
        ∗ own c (dst1 i 0) g0
        ∗ fl c sem1_1 D1 (own c (Memref.whole cc1_scratch1 : Memref sig .tc .vmem S1192x614 .f32) b1)
        ∗ own c (dst1 i 1) g1
        ∗ fl c sem1_2 D2 (own c (Memref.whole cc1_scratch2 : Memref sig .tc .vmem S1192x614 .f32) b2)
        ∗ own c (dst1 i 2) g2
        ∗ fl c sem1_3 D3 (own c (Memref.whole cc1_scratch3 : Memref sig .tc .vmem S1192x614 .f32) b3)
        ∗ own c (dst1 i 3) g3
        ∗ owes (c : Thread nD τ) (0 : CellTallies nD τ sig Unit) W
        ∗ (iprop(pt c M0 f0
            ∗ pt c M1 f1
            ∗ D0
            ∗ (landed1 c i 0 g0 (M0.view.read (Elt F) f0) (M1.view.read (Elt F) f1))
            ∗ (∃ b, own c (Memref.whole cc1_scratch0 : Memref sig .tc .vmem S1192x614 .f32) b)
            ∗ semVal ((c : Thread nD τ), SemLoc.dma sem1_0) 0
            ∗ D1
            ∗ (landed1 c i 1 g1 (M0.view.read (Elt F) f0) (M1.view.read (Elt F) f1))
            ∗ (∃ b, own c (Memref.whole cc1_scratch1 : Memref sig .tc .vmem S1192x614 .f32) b)
            ∗ semVal ((c : Thread nD τ), SemLoc.dma sem1_1) 0
            ∗ D2
            ∗ (landed1 c i 2 g2 (M0.view.read (Elt F) f0) (M1.view.read (Elt F) f1))
            ∗ (∃ b, own c (Memref.whole cc1_scratch2 : Memref sig .tc .vmem S1192x614 .f32) b)
            ∗ semVal ((c : Thread nD τ), SemLoc.dma sem1_2) 0
            ∗ D3
            ∗ (landed1 c i 3 g3 (M0.view.read (Elt F) f0) (M1.view.read (Elt F) f1))
            ∗ (∃ b, own c (Memref.whole cc1_scratch3 : Memref sig .tc .vmem S1192x614 .f32) b)
            ∗ semVal ((c : Thread nD τ), SemLoc.dma sem1_3) 0
            ∗ (∃ W, owes (c : Thread nD τ) (0 : CellTallies nD τ sig Unit) W)) -∗ Q ⟨⟩))
      ⊢ wp frame (wpE (defs₀ (F := F)) 𝒱₀ c none) Set.univ (cc1_body i M0 h0 M1 h1 (Memref.whole main_v1) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _) cc1_scratch4) Q := by
  rw [cc1_body_eq_skeleton]; unfold cc1_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
  iintro ⟨H0, H1, Hs0, Hd0, Hs1, Hd1, Hs2, Hd2, Hs3, Hd3, HO, Hk⟩
  sl_exec
  sl_step
  iapply Hk
  isplitl [H0]
  · iexact H0
  isplitl [H1]
  · iexact H1
  isplitl [Hs0_dst]
  · iexact Hs0_dst
  isplitl [Hd0]
  · iapply (landed_intro c i 0 (View.read_writes_eq_canon _ _ _ (cover1 _ _ _ _ _ _ _ _)))
    iexact Hd0
  isplitl [Hs0_src]
  · iexists _
    iexact Hs0_src
  isplitl [Hs0]
  · iexact Hs0
  isplitl [Hs1_dst]
  · iexact Hs1_dst
  isplitl [Hd1]
  · iapply (landed_intro c i 1 (View.read_writes_eq_canon _ _ _ (cover1 _ _ _ _ _ _ _ _)))
    iexact Hd1
  isplitl [Hs1_src]
  · iexists _
    iexact Hs1_src
  isplitl [Hs1]
  · iexact Hs1
  isplitl [Hs2_dst]
  · iexact Hs2_dst
  isplitl [Hd2]
  · iapply (landed_intro c i 2 (View.read_writes_eq_canon _ _ _ (cover1 _ _ _ _ _ _ _ _)))
    iexact Hd2
  isplitl [Hs2_src]
  · iexists _
    iexact Hs2_src
  isplitl [Hs2]
  · iexact Hs2
  isplitl [Hs3_dst]
  · iexact Hs3_dst
  isplitl [Hd3]
  · iapply (landed_intro c i 3 (View.read_writes_eq_canon _ _ _ (cover1 _ _ _ _ _ _ _ _)))
    iexact Hd3
  isplitl [Hs3_src]
  · iexists _
    iexact Hs3_src
  isplitl [Hs3]
  · iexact Hs3
  iexists _
  iexact HO

end Cert.Proof.Ki

end
-- ==== Proof.Ki.Chunks.lean ====
/-
  The chunks of the second pallas_call's result: which elements of the array each copy writes, their number, and what a
  landed copy leaves there.
-/
module

public import proofs.«01_k».proof.Proof.Ki.Step

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- The number of the chunk that an element of the result lies in: eighteen chunks of 1192 rows per batch; 72 for the rows
    no chunk has. -/
def num (e : S4x22350x614.Idx) : ℕ := if (e 1).val < 21456 then (e 0).val * 18 + (e 1).val / 1192 else 72

/-- The elements of chunk `n`. -/
abbrev chunkS (n : ℕ) : Finset S4x22350x614.Idx := Finset.univ.filter fun e => num e = n
/-- The elements of the chunks from `n` on, the rows without a chunk with them. -/
abbrev fromS (n : ℕ) : Finset S4x22350x614.Idx := Finset.univ.filter fun e => n ≤ num e
/-- The elements of the chunks below `n`. -/
abbrev belowS (n : ℕ) : Finset S4x22350x614.Idx := Finset.univ.filter fun e => num e < n

/-- Where in the result the chunk of slot `r` at point `t` starts. -/
theorem off5_eq : ∀ (t : Fin cfg1.N) (r : Fin 4), k1_off5 (grid1.coords t) (BitVec.ofNat 32 r.val)
    = ![(4 * t.val + r.val) / 18, 1192 * ((4 * t.val + r.val) % 18), 0] := by decide +kernel

/-- The copy of slot `r` at point `t` writes chunk `4 t + r`. -/
theorem dst1_set (t : Fin cfg1.N) (r : Fin 4) : (dst1 (grid1.coords t) r).view.set = chunkS (4 * t.val + r.val) := by
  have ht : t.val < 18 := t.isLt
  have hr : r.val < 4 := r.isLt
  ext e
  have h0 : (e 0).val < 4 := (e 0).isLt
  have h1 : (e 1).val < 22350 := (e 1).isLt
  have h2 : (e 2).val < 614 := (e 2).isLt
  have key : e ∈ (Rect.unit (s := S4x22350x614) (k1_off5 (grid1.coords t) (BitVec.ofNat 32 r.val)) S1x1192x614.size (k1_off5_inb (grid1.coords t) r)).set
      ↔ num e = 4 * t.val + r.val := by
    rw [Rect.mem_set_unit, off5_eq]
    constructor
    · intro h
      have a0 := h 0
      have a1 := h 1
      simp [num] at a0 a1 ⊢
      split <;> omega
    · intro h
      simp only [num] at h
      intro a
      split at h <;> [skip; omega]
      fin_cases a <;> simp <;> omega
  rw [Finset.mem_filter, ← key]
  simp only [Finset.mem_univ, true_and]
  show e ∈ (((View.whole (main_v1 : Ref sig .tc)).slice _).reshape _ _).set ↔ _
  rw [View.set_reshape, View.set_slice_whole]

/-- The result's element that index `y` of that copy's destination is. -/
theorem dst1_emb (t : Fin cfg1.N) (r : Fin 4) (y : S1192x614.Idx) :
    ((((dst1 (grid1.coords t) r).view.emb y : S4x22350x614.Idx) 0).val = (4 * t.val + r.val) / 18)
    ∧ ((((dst1 (grid1.coords t) r).view.emb y : S4x22350x614.Idx) 1).val = 1192 * ((4 * t.val + r.val) % 18) + (y 0).val)
    ∧ ((((dst1 (grid1.coords t) r).view.emb y : S4x22350x614.Idx) 2).val = (y 1).val) := by
  have e : ((dst1 (grid1.coords t) r).view.emb y : S4x22350x614.Idx)
      = (Rect.unit (s := S4x22350x614) (k1_off5 (grid1.coords t) (BitVec.ofNat 32 r.val)) S1x1192x614.size (k1_off5_inb (grid1.coords t) r)).emb
          (Fin.cons ⟨0, Nat.one_pos⟩ y) := by
    rw [← Shape.reshapeEquiv_cons_one (d := S1192x614.size) squeezes_S1x1192x614_S1192x614.numel_eq y]
    rfl
  rw [e]
  refine ⟨?_, ?_, ?_⟩
  · rw [Rect.emb_apply]; simp [off5_eq]
  · rw [Rect.emb_apply]; simp [off5_eq]; rfl
  · rw [Rect.emb_apply]; simp [off5_eq]; rfl

/-- The result with the chunks in place over `f₀`, from the chunks' buffers `O`: element by element, the chunk's buffer at the
    element's place in it. -/
def place (O : Fin cfg1.N → Fin 4 → Vec F S1192x614 .f32) (f₀ : Vec F S4x22350x614 .f32) : Vec F S4x22350x614 .f32 := fun e =>
  if h : num e < 72 then
    O ⟨num e / 4, by show _ < 18; omega⟩ ⟨num e % 4, Nat.mod_lt _ (by decide)⟩ (ix2 ⟨(e 1).val % 1192, Nat.mod_lt _ (by decide)⟩ (e 2))
  else f₀ e

/-- `place` at the element that a copy puts index `y` of its buffer at. -/
theorem place_at (O : Fin cfg1.N → Fin 4 → Vec F S1192x614 .f32) (f₀ : Vec F S4x22350x614 .f32) (t : Fin cfg1.N) (r : Fin 4)
    (y : S1192x614.Idx) (e : S4x22350x614.Idx) (hn : num e = 4 * t.val + r.val) (h1 : (e 1).val = 1192 * ((4 * t.val + r.val) % 18) + (y 0).val)
    (h2 : (e 2).val = (y 1).val) : place O f₀ e = O t r y := by
  have hy : (y 0).val < 1192 := (y 0).isLt
  have ht : t.val < 18 := t.isLt
  have hr : r.val < 4 := r.isLt
  unfold place
  rw [dif_pos (by rw [hn]; omega)]
  have e1 : (⟨num e / 4, by show _ < 18; rw [hn]; omega⟩ : Fin cfg1.N) = t := Fin.ext (by show _ / 4 = _; rw [hn]; omega)
  have e2 : (⟨num e % 4, Nat.mod_lt _ (by decide)⟩ : Fin 4) = r := Fin.ext (by show _ % 4 = _; rw [hn]; omega)
  have e3 : (ix2 ⟨(e 1).val % 1192, Nat.mod_lt _ (by decide)⟩ (e 2) : S1192x614.Idx) = y := by
    funext a
    refine Fin.ext ?_
    fin_cases a
    · show (e 1).val % 1192 = (y 0).val
      rw [h1]; omega
    · exact h2
  rw [e1, e2, e3]

/-- The result with the chunks in place over `f₀`, from the two feature arrays. -/
def chunks (x0 x1 : Vec F S4x150x614 .f32) (f₀ : Vec F S4x22350x614 .f32) : Vec F S4x22350x614 .f32 :=
  place (fun t r => out1 (grid1.coords t) r x0 x1) f₀

/-- A store over a whole view reads back as what was stored. -/
theorem read_writes_whole {sp : Space} {S : Shape} {e : EltTy} (v : View sig .tc sp S e) (g : v.ty.Contents (Elt F)) (w : S.Idx → Elt F e)
    (y : S.Idx) : v.read (Elt F) (v.writes (Elt F) g [⟨Rect.whole S, w⟩]) y = w y := by
  have := View.read_slice_write_emb (Val := Elt F) (v := v) (Rect.whole S) g w (M := Finset.univ) (x := y) (Finset.mem_univ _)
  rw [Rect.emb_whole_apply] at this
  exact this

/-- A copy of `w` leaves `w y` at the element that is its index `y`. -/
theorem copied_at (t : Fin cfg1.N) (r : Fin 4) (g : Vec F S4x22350x614 .f32) (w : Vec F S1192x614 .f32) (y : S1192x614.Idx) :
    (dst1 (grid1.coords t) r).view.writes (Elt F) g [⟨Rect.whole S1192x614, w⟩] ((dst1 (grid1.coords t) r).view.emb y) = w y := by
  have key := read_writes_whole (F := F) (dst1 (grid1.coords t) r).view g w y
  rw [View.read_apply] at key
  exact (cast_eq _ _).symm.trans key

/-- A copy of `w` leaves the chunk that `place` has. -/
theorem landed_place (t : Fin cfg1.N) (r : Fin 4) (g : Vec F S4x22350x614 .f32) (O : Fin cfg1.N → Fin 4 → Vec F S1192x614 .f32)
    (f₀ : Vec F S4x22350x614 .f32) (e : S4x22350x614.Idx) (he : e ∈ (dst1 (grid1.coords t) r).view.set) :
    (dst1 (grid1.coords t) r).view.writes (Elt F) g [⟨Rect.whole S1192x614, O t r⟩] e = place O f₀ e := by
  have hn : num e = 4 * t.val + r.val := by
    rw [dst1_set] at he; exact (Finset.mem_filter.mp he).2
  obtain ⟨y, _, hy⟩ := Finset.mem_map.mp he
  obtain ⟨h0, h1, h2⟩ := dst1_emb t r y
  have key := copied_at t r g (O t r) y
  rw [hy] at h1 h2 key
  rw [place_at O f₀ t r y e hn h1 h2]
  exact key

/-- A landed copy leaves its chunk of `chunks`. -/
theorem landed_eq (c : Dev nD) (t : Fin cfg1.N) (r : Fin 4) (g : Bf (F := F) c (dst1 (grid1.coords t) r)) (x0 x1 : Vec F S4x150x614 .f32)
    (f₀ : Vec F S4x22350x614 .f32) :
    landed1 c (grid1.coords t) r g x0 x1
      = ((c : Thread nD τ).loc main_v1 ↦[chunkS (4 * t.val + r.val)]{fullShare} chunks x0 x1 f₀ : sProp 𝕄) := by
  rw [← dst1_set t r]
  exact pointsTo_congr fun e he => landed_place t r g (fun t r => out1 (grid1.coords t) r x0 x1) f₀ e he

/-- The chunks from `n` on are chunk `n` and those from `n + 1` on. -/
theorem from_split (c : Dev nD) (n : ℕ) (f : Buf (Elt F) ((c : Thread nD τ).loc main_v1)) :
    ((c : Thread nD τ).loc main_v1 ↦[fromS n]{fullShare} f : sProp 𝕄)
      ⊣⊢ iprop(((c : Thread nD τ).loc main_v1 ↦[chunkS n]{fullShare} f) ∗ ((c : Thread nD τ).loc main_v1 ↦[fromS (n + 1)]{fullShare} f)) := by
  rw [show fromS n = chunkS n ∪ fromS (n + 1) by
    ext e; simp only [Finset.mem_union, Finset.mem_filter, Finset.mem_univ, true_and]; omega]
  exact pointsTo_union (Finset.disjoint_left.mpr fun e => by simp only [Finset.mem_filter, Finset.mem_univ, true_and]; omega)

/-- The chunks below `n` and chunk `n` are those below `n + 1`. -/
theorem below_join (c : Dev nD) (n : ℕ) (f : Buf (Elt F) ((c : Thread nD τ).loc main_v1)) :
    iprop(((c : Thread nD τ).loc main_v1 ↦[belowS n]{fullShare} f) ∗ ((c : Thread nD τ).loc main_v1 ↦[chunkS n]{fullShare} f))
      ⊢ ((c : Thread nD τ).loc main_v1 ↦[belowS (n + 1)]{fullShare} f : sProp 𝕄) := by
  rw [show belowS (n + 1) = belowS n ∪ chunkS n by
    ext e; simp only [Finset.mem_union, Finset.mem_filter, Finset.mem_univ, true_and]; omega]
  exact (pointsTo_union (Finset.disjoint_left.mpr fun e => by simp only [Finset.mem_filter, Finset.mem_univ, true_and]; omega)).2

/-- All chunks and the rows without one are the whole result. -/
theorem all_join (c : Dev nD) (x0 x1 : Vec F S4x150x614 .f32) (f₀ : Vec F S4x22350x614 .f32) :
    iprop(((c : Thread nD τ).loc main_v1 ↦[belowS 72]{fullShare} chunks x0 x1 f₀) ∗ ((c : Thread nD τ).loc main_v1 ↦[fromS 72]{fullShare} f₀))
      ⊢ ((c : Thread nD τ).loc main_v1 ↦{fullShare} chunks x0 x1 f₀ : sProp 𝕄) := by
  have h : ((c : Thread nD τ).loc main_v1 ↦[fromS 72]{fullShare} f₀ : sProp 𝕄)
      = ((c : Thread nD τ).loc main_v1 ↦[fromS 72]{fullShare} chunks x0 x1 f₀) := pointsTo_congr fun e he => by
    have := (Finset.mem_filter.mp he).2
    unfold chunks place
    rw [dif_neg (by omega)]
  rw [h]
  refine (pointsTo_union (Finset.disjoint_left.mpr fun e => by simp only [Finset.mem_filter, Finset.mem_univ, true_and]; omega)).2.trans ?_
  rw [show belowS 72 ∪ fromS 72 = Finset.univ by
    ext e; simp only [Finset.mem_union, Finset.mem_filter, Finset.mem_univ, true_and, iff_true]; exact Nat.lt_or_ge _ _]

/-- No chunk is below the first. -/
theorem below_zero (c : Dev nD) (f : Buf (Elt F) ((c : Thread nD τ).loc main_v1)) :
    ((c : Thread nD τ).loc main_v1 ↦[belowS 0]{fullShare} f : sProp 𝕄) = iprop(emp) := by
  rw [show belowS 0 = ∅ by ext e; simp]
  exact pointsTo_empty

/-- Every element is from the first chunk on. -/
theorem from_zero : fromS 0 = Finset.univ := by ext e; simp

end Cert.Proof.Ki

end
-- ==== Proof.Ki.Region1.lean ====
/-
  The second pallas_call: the pipeline's proof data, whose invariant carries the copies in flight and what they have put in
  the result so far, and the body's obligation.
-/
module

public import proofs.«01_k».proof.Proof.Ki.Chunks

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- A whole buffer's own elements are the buffer. -/
theorem own_whole (c : Dev nD) (b : Ref sig .tc) (f : Buf (Elt F) ((c : Thread nD τ).loc b)) :
    own c (Memref.whole b) f = ((c : Thread nD τ).loc b ↦{fullShare} f : sProp 𝕄) := by
  show (((c : Thread nD τ).loc b) ↦[(View.whole b).set]{fullShare} f : sProp 𝕄) = _
  rw [View.set_whole]

/-- The result's elements `S` on core `c`, holding `f`. -/
abbrev resS (c : Dev nD) (S : Finset S4x22350x614.Idx) (f : Vec F S4x22350x614 .f32) : sProp 𝕄 :=
  (c : Thread nD τ).loc main_v1 ↦[S]{fullShare} f

/-- A slot with nothing in flight: its buffer at some contents and its semaphore at zero. -/
abbrev idle (c : Dev nD) (B : Memref sig .tc .vmem S1192x614 .f32) (sm : DmaSem sig) : sProp 𝕄 :=
  iprop((∃ b, own c B b) ∗ semVal ((c : Thread nD τ), SemLoc.dma sm) 0)
/-- A slot whose copy of chunk `n` is in flight. -/
abbrev busy (c : Dev nD) (B : Memref sig .tc .vmem S1192x614 .f32) (sm : DmaSem sig) (n : ℕ) (f : Vec F S4x22350x614 .f32) : sProp 𝕄 :=
  iprop(∃ b, fl c sm (resS c (chunkS n) f) (own c B b))

/-- The buffers of the other two pipelines, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The four slots idle. -/
def idles (c : Dev nD) : sProp 𝕄 :=
  iprop(idle c (Memref.whole cc1_scratch0 : Memref sig .tc .vmem S1192x614 .f32) sem1_0 ∗ idle c (Memref.whole cc1_scratch1 : Memref sig .tc .vmem S1192x614 .f32) sem1_1 ∗ idle c (Memref.whole cc1_scratch2 : Memref sig .tc .vmem S1192x614 .f32) sem1_2 ∗ idle c (Memref.whole cc1_scratch3 : Memref sig .tc .vmem S1192x614 .f32) sem1_3)
/-- The four slots with the copies of point `n` in flight. -/
def busys (c : Dev nD) (n : ℕ) (f : Vec F S4x22350x614 .f32) : sProp 𝕄 :=
  iprop(busy c (Memref.whole cc1_scratch0 : Memref sig .tc .vmem S1192x614 .f32) sem1_0 (4 * n + 0) f ∗ busy c (Memref.whole cc1_scratch1 : Memref sig .tc .vmem S1192x614 .f32) sem1_1 (4 * n + 1) f ∗ busy c (Memref.whole cc1_scratch2 : Memref sig .tc .vmem S1192x614 .f32) sem1_2 (4 * n + 2) f ∗ busy c (Memref.whole cc1_scratch3 : Memref sig .tc .vmem S1192x614 .f32) sem1_3 (4 * n + 3) f)

variable (V : Vals (F := F))

/-- The result of the second pallas_call on core `c`, from the buffers' contents at its start. -/
def res1 (c : Dev nD) : Vec F S4x22350x614 .f32 := chunks (V c main_v0_0) (V c main_v0_1) (V c main_v1)

/-- The invariant before point `n`: the copies of the point before in flight, what is not yet copied still at its first
    contents, what has been collected in place. -/
def PhiS (c : Dev nD) : ℕ → sProp 𝕄
  | 0 => iprop(idles c ∗ resS c (fromS 0) (V c main_v1) ∗ others c)
  | n + 1 => if n = 17 then iprop(idles c ∗ resS c (fromS 72) (V c main_v1) ∗ resS c (belowS 72) (res1 V c) ∗ others c)
      else iprop(busys c n (res1 V c) ∗ resS c (fromS (4 * n + 4)) (V c main_v1) ∗ resS c (belowS (4 * n)) (res1 V c) ∗ others c)

/-- Window `w`'s block at point `t`, read off the region's entry valuation. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The proof data of the second pipeline on core `c`. -/
def dat1 (c : Dev nD) : Dat τ (Elt F) Unit ℕ UU ℕ cfg1 c where
  A w := V c (Pipeline.arrRef spec1 w)
  after w t := match w with
    | ⟨0, _⟩ => iblk1 V c 0 t
    | ⟨1, _⟩ => iblk1 V c 1 t
  Φ n := PhiS V c n.val
  q _ := fullShare
  owed _ := 0

/-- The proof data's arrays are the valuation's. -/
theorem A_eq1 (c : Dev nD) (w : Fin cfg1.W) : (dat1 V c).A w = V c (Pipeline.arrRef spec1 w) := by dsimp only [dat1]
/-- What the body leaves in the first input's buffer. -/
theorem after1_0 (c : Dev nD) (t : Fin cfg1.N) : (dat1 V c).after 0 t = iblk1 V c 0 t := by dsimp only [dat1]
/-- What the body leaves in the second input's buffer. -/
theorem after1_1 (c : Dev nD) (t : Fin cfg1.N) : (dat1 V c).after 1 t = iblk1 V c 1 t := by dsimp only [dat1]

/-- The first input's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- The second input's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The first input's block is the whole array. -/
theorem iblk1_0 (c : Dev nD) (t : Fin cfg1.N) : iblk1 V c 0 t = V c main_v0_0 := by
  funext j
  refine congrArg (V c main_v0_0) ?_
  funext a
  refine Fin.ext ?_
  show (![0, 0, 0] : Fin 3 → ℕ) a * _ + 1 * (j a).val = (j a).val
  fin_cases a <;> simp
/-- The second input's block is the whole array. -/
theorem iblk1_1 (c : Dev nD) (t : Fin cfg1.N) : iblk1 V c 1 t = V c main_v0_1 := by
  funext j
  refine congrArg (V c main_v0_1) ?_
  funext a
  refine Fin.ext ?_
  show (![0, 0, 0] : Fin 3 → ℕ) a * _ + 1 * (j a).val = (j a).val
  fin_cases a <;> simp

/-- When the body collects before it fills its slots: at every point but the first. -/
theorem conds1 : ∀ t : Fin cfg1.N, (k1_cond1 (grid1.coords t) = 1#1 ↔ 0 < t.val) ∧ (k1_cond2 (grid1.coords t) = 1#1 ↔ 0 < t.val)
    ∧ (k1_cond3 (grid1.coords t) = 1#1 ↔ 0 < t.val) ∧ (k1_cond4 (grid1.coords t) = 1#1 ↔ 0 < t.val)
    ∧ (lastC (grid1.coords t) = 1#1 ↔ t.val = 17) := by decide +kernel

/-- Splitting off the four chunks that point `t` writes, each as its copy's destination. -/
theorem split4 (c : Dev nD) (t : Fin cfg1.N) (f : Vec F S4x22350x614 .f32) :
    resS c (fromS (4 * t.val)) f ⊢ iprop(own c (dst1 (grid1.coords t) 0) f ∗ own c (dst1 (grid1.coords t) 1) f
      ∗ own c (dst1 (grid1.coords t) 2) f ∗ own c (dst1 (grid1.coords t) 3) f ∗ resS c (fromS (4 * t.val + 4)) f) := by
  have e : ∀ r : Fin 4, own c (dst1 (grid1.coords t) r) f = (resS c (chunkS (4 * t.val + r.val)) f : sProp 𝕄) := fun r => by
    rw [← dst1_set t r]
  rw [e 0, e 1, e 2, e 3]
  iintro H
  ihave H := (from_split c (4 * t.val) f).1 $$ H
  icases H with ⟨H0, H⟩
  isplitl [H0]; · iexact H0
  ihave H := (from_split c (4 * t.val + 1) f).1 $$ H
  icases H with ⟨H0, H⟩
  isplitl [H0]; · iexact H0
  ihave H := (from_split c (4 * t.val + 2) f).1 $$ H
  icases H with ⟨H0, H⟩
  isplitl [H0]; · iexact H0
  ihave H := (from_split c (4 * t.val + 3) f).1 $$ H
  icases H with ⟨H0, H⟩
  isplitl [H0]; · iexact H0
  iexact H

/-- Putting four collected chunks with those collected before. -/
theorem join4 (c : Dev nD) (n : ℕ) (f : Vec F S4x22350x614 .f32) :
    iprop(resS c (belowS (4 * n)) f ∗ resS c (chunkS (4 * n + 0)) f ∗ resS c (chunkS (4 * n + 1)) f
      ∗ resS c (chunkS (4 * n + 2)) f ∗ resS c (chunkS (4 * n + 3)) f) ⊢ (resS c (belowS (4 * (n + 1))) f : sProp 𝕄) := by
  iintro ⟨H, H0, H1, H2, H3⟩
  iapply (below_join c (4 * n + 3) f)
  isplitr [H3]
  · iapply (below_join c (4 * n + 2) f)
    isplitr [H2]
    · iapply (below_join c (4 * n + 1) f)
      isplitr [H1]
      · iapply (below_join c (4 * n + 0) f)
        isplitr [H0]
        · iexact H
        · iexact H0
      · iexact H1
    · iexact H2
  · iexact H3

/-- A landed chunk is the result's. -/
theorem landed_res (c : Dev nD) (t : Fin cfg1.N) (r : Fin 4) (g : Bf (F := F) c (dst1 (grid1.coords t) r)) :
    landed1 c (grid1.coords t) r g (V c main_v0_0) (V c main_v0_1) = resS c (chunkS (4 * t.val + r.val)) (res1 V c) :=
  landed_eq c t r g _ _ _

/-- The body at the first point. -/
theorem sound1_first (c : Dev nD) (t : Fin cfg1.N) (ht : t.val = 0) (M0 : Memref sig .tc .vmem S4x150x614 .f32) (h0 : M0.IsWhole) (M1 : Memref sig .tc .vmem S4x150x614 .f32) (h1 : M1.IsWhole)
    (Q : PUnit → sProp 𝕄) :
    iprop(PhiS V c t.val ∗ (∃ W, owes (c : Thread nD τ) (0 : CellTallies nD τ sig Unit) W)
        ∗ owns (c : Thread nD τ) M0 fullShare (V c main_v0_0) ∗ owns (c : Thread nD τ) M1 fullShare (V c main_v0_1)
        ∗ (iprop(PhiS V c (t.val + 1) ∗ (∃ W, owes (c : Thread nD τ) (0 : CellTallies nD τ sig Unit) W)
            ∗ owns (c : Thread nD τ) M0 fullShare (V c main_v0_0) ∗ owns (c : Thread nD τ) M1 fullShare (V c main_v0_1)) -∗ Q ⟨⟩))
      ⊢ wp frame (wpE (defs₀ (F := F)) 𝒱₀ c none) Set.univ (cc1_body (grid1.coords t) M0 h0 M1 h1 (Memref.whole main_v1) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _) cc1_scratch4) Q := by
  obtain ⟨k1, k2, k3, k4, kl⟩ := conds1 t
  rw [show PhiS V c t.val = iprop(idles c ∗ resS c (fromS (4 * t.val)) (V c main_v1) ∗ others c) by rw [ht]; rfl,
    show PhiS V c (t.val + 1) = iprop(busys c t.val (res1 V c) ∗ resS c (fromS (4 * t.val + 4)) (V c main_v1)
      ∗ resS c (belowS (4 * t.val)) (res1 V c) ∗ others c) from if_neg (by omega)]
  unfold owns
  rw [h0.set_eq_univ, h1.set_eq_univ]
  iintro ⟨HΦ, ⟨%W, HO⟩, ⟨%f0, %e0, H0⟩, ⟨%f1, %e1, H1⟩, Hk⟩
  icases HΦ with ⟨Hi, Hf, Hot⟩
  unfold idles
  icases Hi with ⟨⟨⟨%b0, Hb0⟩, Hs0⟩, ⟨⟨%b1, Hb1⟩, Hs1⟩, ⟨⟨%b2, Hb2⟩, Hs2⟩, ⟨⟨%b3, Hb3⟩, Hs3⟩⟩
  ihave Hf := split4 c t (V c main_v1) $$ Hf
  icases Hf with ⟨Hd0, Hd1, Hd2, Hd3, Hf⟩
  iapply (step_first c (grid1.coords t) (fun h => by have := k1.mp h; omega) (fun h => by have := k2.mp h; omega) (fun h => by have := k3.mp h; omega) (fun h => by have := k4.mp h; omega) (fun h => by have := kl.mp h; omega) M0 h0 M1 h1 f0 f1 b0 (V c main_v1) b1 (V c main_v1) b2 (V c main_v1) b3 (V c main_v1) W Q)
  isplitl [H0]; · iexact H0
  isplitl [H1]; · iexact H1
  isplitl [Hb0]; · iexact Hb0
  isplitl [Hs0]; · iexact Hs0
  isplitl [Hd0]; · iexact Hd0
  isplitl [Hb1]; · iexact Hb1
  isplitl [Hs1]; · iexact Hs1
  isplitl [Hd1]; · iexact Hd1
  isplitl [Hb2]; · iexact Hb2
  isplitl [Hs2]; · iexact Hs2
  isplitl [Hd2]; · iexact Hd2
  isplitl [Hb3]; · iexact Hb3
  isplitl [Hs3]; · iexact Hs3
  isplitl [Hd3]; · iexact Hd3
  isplitl [HO]; · iexact HO
  rw [e0, e1]
  simp only [landed_res]
  iintro ⟨H0, H1, Hs0, Hs1, Hs2, Hs3, HO⟩
  iapply Hk
  isplitr [HO H0 H1]
  · isplitl [Hs0 Hs1 Hs2 Hs3]
    · unfold busys
      isplitl [Hs0]; · iexact Hs0
      isplitl [Hs1]; · iexact Hs1
      isplitl [Hs2]; · iexact Hs2
      iexact Hs3
    isplitl [Hf]; · iexact Hf
    isplitr [Hot]
    · rw [ht]
      iapply (Entails.of_eq (below_zero c (res1 V c)).symm)
      iempintro
    · iexact Hot
  isplitl [HO]; · iexact HO
  isplitl [H0]
  · iexists f0; isplitr; · ipureintro; exact e0
    iexact H0
  · iexists f1; isplitr; · ipureintro; exact e1
    iexact H1

/-- The body at a point between the first and the last. -/
theorem sound1_mid (c : Dev nD) (t : Fin cfg1.N) (ht : 0 < t.val) (ht' : t.val < 17) (M0 : Memref sig .tc .vmem S4x150x614 .f32) (h0 : M0.IsWhole) (M1 : Memref sig .tc .vmem S4x150x614 .f32) (h1 : M1.IsWhole)
    (Q : PUnit → sProp 𝕄) :
    iprop(PhiS V c t.val ∗ (∃ W, owes (c : Thread nD τ) (0 : CellTallies nD τ sig Unit) W)
        ∗ owns (c : Thread nD τ) M0 fullShare (V c main_v0_0) ∗ owns (c : Thread nD τ) M1 fullShare (V c main_v0_1)
        ∗ (iprop(PhiS V c (t.val + 1) ∗ (∃ W, owes (c : Thread nD τ) (0 : CellTallies nD τ sig Unit) W)
            ∗ owns (c : Thread nD τ) M0 fullShare (V c main_v0_0) ∗ owns (c : Thread nD τ) M1 fullShare (V c main_v0_1)) -∗ Q ⟨⟩))
      ⊢ wp frame (wpE (defs₀ (F := F)) 𝒱₀ c none) Set.univ (cc1_body (grid1.coords t) M0 h0 M1 h1 (Memref.whole main_v1) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _) cc1_scratch4) Q := by
  obtain ⟨k1, k2, k3, k4, kl⟩ := conds1 t
  obtain ⟨s, hs⟩ : ∃ s, t.val = s + 1 := ⟨t.val - 1, by omega⟩
  have htN : t.val < 18 := t.isLt
  rw [show PhiS V c t.val = iprop(busys c s (res1 V c) ∗ resS c (fromS (4 * t.val)) (V c main_v1)
      ∗ resS c (belowS (4 * s)) (res1 V c) ∗ others c) by rw [hs]; exact if_neg (by omega),
    show PhiS V c (t.val + 1) = iprop(busys c t.val (res1 V c) ∗ resS c (fromS (4 * t.val + 4)) (V c main_v1)
      ∗ resS c (belowS (4 * t.val)) (res1 V c) ∗ others c) from if_neg (by omega)]
  unfold owns
  rw [h0.set_eq_univ, h1.set_eq_univ]
  iintro ⟨HΦ, ⟨%W, HO⟩, ⟨%f0, %e0, H0⟩, ⟨%f1, %e1, H1⟩, Hk⟩
  icases HΦ with ⟨Hi, Hf, Hbl, Hot⟩
  unfold busys
  icases Hi with ⟨⟨%b0, Hs0⟩, ⟨%b1, Hs1⟩, ⟨%b2, Hs2⟩, ⟨%b3, Hs3⟩⟩
  ihave Hf := split4 c t (V c main_v1) $$ Hf
  icases Hf with ⟨Hd0, Hd1, Hd2, Hd3, Hf⟩
  iapply (step_mid c (grid1.coords t) (k1.mpr (by omega)) (k2.mpr (by omega)) (k3.mpr (by omega)) (k4.mpr (by omega)) (fun h => by have := kl.mp h; omega) M0 h0 M1 h1 f0 f1 b0 (V c main_v1) b1 (V c main_v1) b2 (V c main_v1) b3 (V c main_v1) _ _ _ _ W Q)
  isplitl [H0]; · iexact H0
  isplitl [H1]; · iexact H1
  isplitl [Hs0]; · iexact Hs0
  isplitl [Hd0]; · iexact Hd0
  isplitl [Hs1]; · iexact Hs1
  isplitl [Hd1]; · iexact Hd1
  isplitl [Hs2]; · iexact Hs2
  isplitl [Hd2]; · iexact Hd2
  isplitl [Hs3]; · iexact Hs3
  isplitl [Hd3]; · iexact Hd3
  isplitl [HO]; · iexact HO
  rw [e0, e1]
  simp only [landed_res]
  iintro ⟨H0, H1, HD0, Hs0, HD1, Hs1, HD2, Hs2, HD3, Hs3, HO⟩
  iapply Hk
  isplitr [HO H0 H1]
  · isplitl [Hs0 Hs1 Hs2 Hs3]
    · isplitl [Hs0]; · iexact Hs0
      isplitl [Hs1]; · iexact Hs1
      isplitl [Hs2]; · iexact Hs2
      iexact Hs3
    isplitl [Hf]; · iexact Hf
    isplitr [Hot]
    · rw [hs]
      iapply (join4 c s (res1 V c))
      isplitl [Hbl]; · iexact Hbl
      isplitl [HD0]; · iexact HD0
      isplitl [HD1]; · iexact HD1
      isplitl [HD2]; · iexact HD2
      iexact HD3
    · iexact Hot
  isplitl [HO]; · iexact HO
  isplitl [H0]
  · iexists f0; isplitr; · ipureintro; exact e0
    iexact H0
  · iexists f1; isplitr; · ipureintro; exact e1
    iexact H1

/-- The body at the last point. -/
theorem sound1_last (c : Dev nD) (t : Fin cfg1.N) (ht : t.val = 17) (M0 : Memref sig .tc .vmem S4x150x614 .f32) (h0 : M0.IsWhole) (M1 : Memref sig .tc .vmem S4x150x614 .f32) (h1 : M1.IsWhole)
    (Q : PUnit → sProp 𝕄) :
    iprop(PhiS V c t.val ∗ (∃ W, owes (c : Thread nD τ) (0 : CellTallies nD τ sig Unit) W)
        ∗ owns (c : Thread nD τ) M0 fullShare (V c main_v0_0) ∗ owns (c : Thread nD τ) M1 fullShare (V c main_v0_1)
        ∗ (iprop(PhiS V c (t.val + 1) ∗ (∃ W, owes (c : Thread nD τ) (0 : CellTallies nD τ sig Unit) W)
            ∗ owns (c : Thread nD τ) M0 fullShare (V c main_v0_0) ∗ owns (c : Thread nD τ) M1 fullShare (V c main_v0_1)) -∗ Q ⟨⟩))
      ⊢ wp frame (wpE (defs₀ (F := F)) 𝒱₀ c none) Set.univ (cc1_body (grid1.coords t) M0 h0 M1 h1 (Memref.whole main_v1) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _) cc1_scratch4) Q := by
  obtain ⟨k1, k2, k3, k4, kl⟩ := conds1 t
  obtain ⟨s, hs⟩ : ∃ s, t.val = s + 1 := ⟨t.val - 1, by omega⟩
  have htN : t.val < 18 := t.isLt
  rw [show PhiS V c t.val = iprop(busys c s (res1 V c) ∗ resS c (fromS (4 * t.val)) (V c main_v1)
      ∗ resS c (belowS (4 * s)) (res1 V c) ∗ others c) by rw [hs]; exact if_neg (by omega),
    show PhiS V c (t.val + 1) = iprop(idles c ∗ resS c (fromS (4 * t.val + 4)) (V c main_v1)
      ∗ resS c (belowS (4 * (t.val + 1))) (res1 V c) ∗ others c) by rw [ht]; rfl]
  unfold owns
  rw [h0.set_eq_univ, h1.set_eq_univ]
  iintro ⟨HΦ, ⟨%W, HO⟩, ⟨%f0, %e0, H0⟩, ⟨%f1, %e1, H1⟩, Hk⟩
  icases HΦ with ⟨Hi, Hf, Hbl, Hot⟩
  unfold busys
  icases Hi with ⟨⟨%b0, Hs0⟩, ⟨%b1, Hs1⟩, ⟨%b2, Hs2⟩, ⟨%b3, Hs3⟩⟩
  ihave Hf := split4 c t (V c main_v1) $$ Hf
  icases Hf with ⟨Hd0, Hd1, Hd2, Hd3, Hf⟩
  iapply (step_last c (grid1.coords t) (k1.mpr (by omega)) (k2.mpr (by omega)) (k3.mpr (by omega)) (k4.mpr (by omega)) (kl.mpr (by omega)) M0 h0 M1 h1 f0 f1 b0 (V c main_v1) b1 (V c main_v1) b2 (V c main_v1) b3 (V c main_v1) _ _ _ _ W Q)
  isplitl [H0]; · iexact H0
  isplitl [H1]; · iexact H1
  isplitl [Hs0]; · iexact Hs0
  isplitl [Hd0]; · iexact Hd0
  isplitl [Hs1]; · iexact Hs1
  isplitl [Hd1]; · iexact Hd1
  isplitl [Hs2]; · iexact Hs2
  isplitl [Hd2]; · iexact Hd2
  isplitl [Hs3]; · iexact Hs3
  isplitl [Hd3]; · iexact Hd3
  isplitl [HO]; · iexact HO
  rw [e0, e1]
  simp only [landed_res]
  iintro ⟨H0, H1, HD0, Hc0, Hb0, Hs0, HD1, Hc1, Hb1, Hs1, HD2, Hc2, Hb2, Hs2, HD3, Hc3, Hb3, Hs3, HO⟩
  iapply Hk
  isplitr [HO H0 H1]
  · isplitl [Hb0 Hs0 Hb1 Hs1 Hb2 Hs2 Hb3 Hs3]
    · unfold idles
      isplitl [Hb0 Hs0]
      · isplitl [Hb0]; · iexact Hb0
        iexact Hs0
      isplitl [Hb1 Hs1]
      · isplitl [Hb1]; · iexact Hb1
        iexact Hs1
      isplitl [Hb2 Hs2]
      · isplitl [Hb2]; · iexact Hb2
        iexact Hs2
      isplitl [Hb3]; · iexact Hb3
      iexact Hs3
    isplitl [Hf]; · iexact Hf
    isplitr [Hot]
    · iapply (join4 c t.val (res1 V c))
      isplitr [Hc0 Hc1 Hc2 Hc3]
      · rw [hs]
        iapply (join4 c s (res1 V c))
        isplitl [Hbl]; · iexact Hbl
        isplitl [HD0]; · iexact HD0
        isplitl [HD1]; · iexact HD1
        isplitl [HD2]; · iexact HD2
        iexact HD3
      · isplitl [Hc0]; · iexact Hc0
        isplitl [Hc1]; · iexact Hc1
        isplitl [Hc2]; · iexact Hc2
        iexact Hc3
    · iexact Hot
  isplitl [HO]; · iexact HO
  isplitl [H0]
  · iexists f0; isplitr; · ipureintro; exact e0
    iexact H0
  · iexists f1; isplitr; · ipureintro; exact e1
    iexact H1

/-- The body at any point, over what the pipeline hands it and takes back. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d)))
      ⊢ wp frame (wpE (defs₀ (F := F)) 𝒱₀ c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t))) := by
  unfold bodyAt1
  simp only [before1_0, before1_1]
  rw [show (dat1 V c).Φ t.succ = PhiS V c (t.val + 1) from rfl, show (dat1 V c).Φ t.castSucc = PhiS V c t.val from rfl,
    after1_0, after1_1, iblk1_0, iblk1_1]
  have key : ∀ Q : PUnit → sProp 𝕄, iprop(PhiS V c t.val ∗ (∃ W, owes (c : Thread nD τ) (0 : CellTallies nD τ sig Unit) W)
        ∗ owns (c : Thread nD τ) (st1_0 t) fullShare (V c main_v0_0) ∗ owns (c : Thread nD τ) (st1_1 t) fullShare (V c main_v0_1)
        ∗ (iprop(PhiS V c (t.val + 1) ∗ (∃ W, owes (c : Thread nD τ) (0 : CellTallies nD τ sig Unit) W)
            ∗ owns (c : Thread nD τ) (st1_0 t) fullShare (V c main_v0_0) ∗ owns (c : Thread nD τ) (st1_1 t) fullShare (V c main_v0_1)) -∗ Q ⟨⟩))
      ⊢ wp frame (wpE (defs₀ (F := F)) 𝒱₀ c none) Set.univ (bodyAt1 t) Q := fun Q => by
    rcases Nat.eq_zero_or_pos t.val with h | h
    · exact sound1_first V c t h _ _ _ _ Q
    · rcases Nat.lt_or_ge t.val 17 with h' | h'
      · exact sound1_mid V c t h h' _ _ _ _ Q
      · exact sound1_last V c t (by have : t.val < 18 := t.isLt; omega) _ _ _ _ Q
  iintro ⟨HΦ, Ho, ⟨%d0, H0⟩, ⟨%d1, H1⟩⟩
  iapply (key _)
  isplitl [HΦ]; · iexact HΦ
  isplitl [Ho]
  · unfold Pipeline.Dat.owesAt Pipeline.owesWithin
    icases Ho with ⟨%W, -, HO⟩; iexists W; iexact HO
  isplitl [H0]; · iexact H0
  isplitl [H1]; · iexact H1
  iintro ⟨HΦ, ⟨%W, HO⟩, H0, H1⟩
  isplitl [HΦ]; · iexact HΦ
  isplitl [HO]
  · unfold Pipeline.Dat.owesAt Pipeline.owesWithin
    iexists W; isplitr; · ipureintro; exact fun _ _ => Or.inl trivial
    iexact HO
  isplitl [H0]; · iexact H0
  iexact H1

/-- The body table's row at point `t` is the second body. -/
theorem defs₀_row1 (t : Fin cfg1.N) :
    defs₀ (F := F) .tc cfg1.body (cfg1.bodyArgs t (cfg1.slots t)) = bodyAt1 t := by
  unfold defs₀; rw [Defs.onTc_tc]

/-- The second pipeline's body obligation. -/
theorem body_obligation1 (c : Dev nD) : BodyObligation (dat1 V c) (defs₀ (F := F)) 𝒱₀ () Set.univ := fun t => by
  rw [bigSep_W1, bigSep_W1, defs₀_row1]
  exact triple_restated (sound_body1 V c t) rfl .rfl fun _ => .rfl

end Cert.Proof.Ki

end
-- ==== Proof.Ki.Region2.lean ====
/-
  The third pallas_call: what its body leaves in the output buffer, its proof data from any valuation of the buffers,
  and the body's obligation at every point.
-/
module

public import proofs.«01_k».proof.Proof.Ki.Block

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- Rows 0 to 148 of a block of features. -/
abbrev r2lo : Rect S1x150x614 := Rect.unit (s := S1x150x614) ![0, 0, 0] S1x149x614.size inb_S1x150x614_S1x149x614_0_0_0
/-- Rows 1 to 149 of a block of features. -/
abbrev r2hi : Rect S1x150x614 := Rect.unit (s := S1x150x614) ![0, 1, 0] S1x149x614.size inb_S1x150x614_S1x149x614_0_1_0
/-- Row 144 of a block of features. -/
abbrev r2row144 : Rect S1x150x614 := Rect.unit (s := S1x150x614) ![0, 144, 0] S1x1x614.size inb_S1x150x614_S1x1x614_0_144_0
/-- Row 145 of a block of features. -/
abbrev r2row145 : Rect S1x150x614 := Rect.unit (s := S1x150x614) ![0, 145, 0] S1x1x614.size inb_S1x150x614_S1x1x614_0_145_0
/-- Row 146 of a block of features. -/
abbrev r2row146 : Rect S1x150x614 := Rect.unit (s := S1x150x614) ![0, 146, 0] S1x1x614.size inb_S1x150x614_S1x1x614_0_146_0
/-- Row 147 of a block of features. -/
abbrev r2row147 : Rect S1x150x614 := Rect.unit (s := S1x150x614) ![0, 147, 0] S1x1x614.size inb_S1x150x614_S1x1x614_0_147_0
/-- Row 148 of a block of features. -/
abbrev r2row148 : Rect S1x150x614 := Rect.unit (s := S1x150x614) ![0, 148, 0] S1x1x614.size inb_S1x150x614_S1x1x614_0_148_0
/-- Row 149 of a block of features. -/
abbrev r2row149 : Rect S1x150x614 := Rect.unit (s := S1x150x614) ![0, 149, 0] S1x1x614.size inb_S1x150x614_S1x1x614_0_149_0
/-- The output buffer's rows from 0 on, 149 of them. -/
abbrev r2o0 : Rect S1x1192x614 := Rect.unit (s := S1x1192x614) ![0, 0, 0] S1x149x614.size inb_S1x1192x614_S1x149x614_0_0_0
/-- The output buffer's rows from 149 on, 149 of them. -/
abbrev r2o1 : Rect S1x1192x614 := Rect.unit (s := S1x1192x614) ![0, 149, 0] S1x149x614.size inb_S1x1192x614_S1x149x614_0_149_0
/-- The output buffer's rows from 298 on, 149 of them. -/
abbrev r2o2 : Rect S1x1192x614 := Rect.unit (s := S1x1192x614) ![0, 298, 0] S1x149x614.size inb_S1x1192x614_S1x149x614_0_298_0
/-- The output buffer's rows from 447 on, 149 of them. -/
abbrev r2o3 : Rect S1x1192x614 := Rect.unit (s := S1x1192x614) ![0, 447, 0] S1x149x614.size inb_S1x1192x614_S1x149x614_0_447_0
/-- The output buffer's rows from 596 on, 149 of them. -/
abbrev r2o4 : Rect S1x1192x614 := Rect.unit (s := S1x1192x614) ![0, 596, 0] S1x149x614.size inb_S1x1192x614_S1x149x614_0_596_0
/-- The output buffer's rows from 745 on, 149 of them. -/
abbrev r2o5 : Rect S1x1192x614 := Rect.unit (s := S1x1192x614) ![0, 745, 0] S1x149x614.size inb_S1x1192x614_S1x149x614_0_745_0
/-- The output buffer's rows from 894 on, 149 of them. -/
abbrev r2o6 : Rect S1x1192x614 := Rect.unit (s := S1x1192x614) ![0, 894, 0] S1x149x614.size inb_S1x1192x614_S1x149x614_0_894_0
/-- The output buffer's rows from 1043 on, 149 of them. -/
abbrev r2o7 : Rect S1x1192x614 := Rect.unit (s := S1x1192x614) ![0, 1043, 0] S1x149x614.size inb_S1x1192x614_S1x149x614_0_1043_0

/-- One stored block: the pair rows against the word `x`, the first factor's row being `row`. -/
def blk2 (x : BitVec 32) (x1 : Vec F S1x150x614 .f32) (row : Vec F S1x1x614 .f32) : FVec F S1x149x614 .f32 :=
  shapeCast S1x149x614 (pairRows x (View.ld x1 r2lo) (View.ld x1 r2hi) row) shapeCasts_S149x614_S1x149x614

/-- The output buffer after the body, from the two input blocks: its eight stores, last first. -/
def out2 (x0 x1 : Vec F S1x150x614 .f32) : Vec F S1x1192x614 .f32 :=
  View.canon [⟨r2o7, blk2 149#32 x1 (View.ld x0 r2row149)⟩,
    ⟨r2o6, blk2 149#32 x1 (View.ld x0 r2row149)⟩,
    ⟨r2o5, blk2 149#32 x1 (View.ld x0 r2row149)⟩,
    ⟨r2o4, blk2 148#32 x1 (View.ld x0 r2row148)⟩,
    ⟨r2o3, blk2 147#32 x1 (View.ld x0 r2row147)⟩,
    ⟨r2o2, blk2 146#32 x1 (View.ld x0 r2row146)⟩,
    ⟨r2o1, blk2 145#32 x1 (View.ld x0 r2row145)⟩,
    ⟨r2o0, blk2 144#32 x1 (View.ld x0 r2row144)⟩]

/-- Eight stores of 149 rows cover the buffer. -/
theorem cover2 (p0 p1 p2 p3 p4 p5 p6 p7 : Vec F S1x149x614 .f32) (y : S1x1192x614.Idx) :
    ∃ pc ∈ ([⟨r2o7, p7⟩, ⟨r2o6, p6⟩, ⟨r2o5, p5⟩, ⟨r2o4, p4⟩, ⟨r2o3, p3⟩, ⟨r2o2, p2⟩, ⟨r2o1, p1⟩, ⟨r2o0, p0⟩] : List (View.Piece (Elt F) S1x1192x614 .f32)), y ∈ pc.1.set :=
  View.cover_of_tiled [⟨r2o7, p7⟩, ⟨r2o6, p6⟩, ⟨r2o5, p5⟩, ⟨r2o4, p4⟩, ⟨r2o3, p3⟩, ⟨r2o2, p2⟩, ⟨r2o1, p1⟩, ⟨r2o0, p0⟩] S1x149x614.size (by rfl) y

set_option maxHeartbeats 2000000 in
/-- The third body on whole staging buffers: from the inputs' at `x0`, `x1` and the output's at anything it returns with
    the inputs' as they were and the output's at `out2` of them. -/
theorem sound2 (c : Dev nD) (E : Set ℕ) (i : grid2.Coords) (MH : Memref sig .tc .hbm S4x22350x614 .f32) (hH : MH.IsWhole)
    (M0 : Memref sig .tc .vmem S1x150x614 .f32) (h0 : M0.IsWhole)
    (M1 : Memref sig .tc .vmem S1x150x614 .f32) (h1 : M1.IsWhole) (M2 : Memref sig .tc .vmem S1x1192x614 .f32) (h2 : M2.IsWhole)
    (x0 x1 : Vec F S1x150x614 .f32) (K : PUnit → sProp 𝕄) :
    iprop(owns (c : Thread nD τ) M0 fullShare x0 ∗ owns (c : Thread nD τ) M1 fullShare x1
        ∗ (∃ d, owns (c : Thread nD τ) M2 fullShare d)
        ∗ (iprop(owns (c : Thread nD τ) M0 fullShare x0 ∗ owns (c : Thread nD τ) M1 fullShare x1
            ∗ owns (c : Thread nD τ) M2 fullShare (out2 x0 x1)) -∗ K ⟨⟩))
      ⊢ wp frame (wpE (defs₀ (F := F)) 𝒱₀ c none) E (cc2_body i MH hH M0 h0 M1 h1 M2 h2) K := by
  rw [cc2_body_eq_skeleton]; unfold cc2_body_skel
  simp only [k2_part1_eq_skeleton, k2_part2_eq_skeleton, k2_part3_eq_skeleton, k2_part4_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _ _ _ _ _ _ _ _)

/-- Window `w`'s block at point `t`, read off its array as the region finds it. -/
def iblk2 (V : Vals (F := F)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The proof data of the third pipeline on core `c`: the arrays as the region finds them; after the body the inputs'
    buffers at their blocks and the output's at `out2` of those; the invariant the buffers of the other pipelines;
    nothing owed. -/
def dat2 (V : Vals (F := F)) (c : Dev nD) : Dat τ (Elt F) Unit ℕ UU ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.scopedRest (Ix := Unit) (Name := ℕ) (U := UU) (Lvl := ℕ) (Val := Elt F) spec2 c
  q _ := fullShare
  owed _ := 0

variable (V : Vals (F := F))

/-- The proof data's arrays are the valuation's. -/
theorem A_eq2 (c : Dev nD) (w : Fin cfg2.W) : (dat2 V c).A w = V c (Pipeline.arrRef spec2 w) := by dsimp only [dat2]
/-- What the body leaves in the first input's buffer. -/
theorem after2_0 (c : Dev nD) (t : Fin cfg2.N) : (dat2 V c).after 0 t = iblk2 V c 0 t := by dsimp only [dat2]
/-- What the body leaves in the second input's buffer. -/
theorem after2_1 (c : Dev nD) (t : Fin cfg2.N) : (dat2 V c).after 1 t = iblk2 V c 1 t := by dsimp only [dat2]
/-- What the body leaves in the output's buffer. -/
theorem after2_2 (c : Dev nD) (t : Fin cfg2.N) : (dat2 V c).after 2 t = out2 (iblk2 V c 0 t) (iblk2 V c 1 t) := by
  dsimp only [dat2]

/-- The first input's buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
/-- The second input's buffer holds its block at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The body at any point, over what the pipeline hands it and takes back. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) 𝒱₀ c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t))) := by
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound2 c Set.univ (grid2.coords t) _ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t` is the third body. -/
theorem defs₀_row2 (t : Fin cfg2.N) :
    defs₀ (F := F) .tc cfg2.body (cfg2.bodyArgs t (cfg2.slots t)) = bodyAt2 t := by
  unfold defs₀; rw [Defs.onTc_tc]

/-- The third pipeline's body obligation. -/
theorem body_obligation2 (c : Dev nD) : BodyObligation (dat2 V c) (defs₀ (F := F)) 𝒱₀ () Set.univ := fun t => by
  rw [bigSep_W2, bigSep_W2, defs₀_row2]
  exact triple_restated (sound_body2 V c t) rfl .rfl fun _ => .rfl

end Cert.Proof.Ki

end
-- ==== Proof.Ki.Data.lean ====
/-
  The proof data of the three pallas_calls, together.
-/
module

public import proofs.«01_k».proof.Proof.Ki.Region0
public import proofs.«01_k».proof.Proof.Ki.Region1
public import proofs.«01_k».proof.Proof.Ki.Region2
public import proofs.«01_k».proof.Proof.Gen.KernelIdeal.Launch
public import proofs.«01_k».proof.Proof.Gen.KernelIdeal.Regions
public import Idealize.ShloMosaic.Lib.Pipeline.Frame
public import Idealize.ShloMosaic.Lib.Pipeline.Regions

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

open Idealize.ShloMosaic.Pipeline (Seg HostSeg RegionSeg)

/-- The three pipelines' proof data, each over the buffers' contents at its start. -/
def pdats (Va Vb Vc : Vals (F := F)) : (p : Fin 3) → (c : Dev nD) → Dat τ (Elt F) Unit ℕ UU ℕ (cfgs p) c
  | ⟨0, _⟩, c => dat0 Va c
  | ⟨1, _⟩, c => dat1 Vb c
  | ⟨2, _⟩, c => dat2 Vc c

end Cert.Proof.Ki

end
-- ==== Proof.Ki.Vals.lean ====
/-
  What the unscoped buffers hold between the items of the program's run.
-/
module

public import proofs.«01_k».proof.Proof.Ki.Data

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

open Idealize.ShloMosaic.Pipeline (Seg HostSeg RegionSeg)

variable (m : (ℓ : Loc nD τ sig) → Buf (Elt F) ℓ)

/-- The contents of a core's buffers at launch. -/
abbrev U0 : Vals (F := F) := fun c b => V0 m c b
/-- What the first call leaves: the two feature arrays. -/
@[irreducible] def U1 (c : Dev nD) : Valuation τ sig (Elt F) :=
  Function.update (Function.update (V0 m c) main_v0_0 ((dat0 (U0 m) c).arrAt 2 cfg0.N)) main_v0_1 ((dat0 (U0 m) c).arrAt 3 cfg0.N)
/-- The buffers after the first call. -/
abbrev W1 : Vals (F := F) := fun c b => U1 m c b
/-- What the second leaves: the chunks of the result. -/
@[irreducible] def U2 (c : Dev nD) : Valuation τ sig (Elt F) := Function.update (U1 m c) main_v1 (res1 (W1 m) c)
/-- The buffers after the second call. -/
abbrev W2 : Vals (F := F) := fun c b => U2 m c b
/-- What the copy between them leaves. -/
@[irreducible] def U3 (c : Dev nD) : Valuation τ sig (Elt F) := StableHlo.after hostOps2 (U2 m c)
/-- The buffers after the copy. -/
abbrev W3 : Vals (F := F) := fun c b => U3 m c b
/-- The result of the run. -/
@[irreducible] def result (c : Dev nD) : Buf (Elt F) ((c : Thread nD τ).loc main_v2) := (dat2 (W3 m) c).arrAt 2 cfg2.N
/-- What the third leaves: the result. -/
@[irreducible] def U4 (c : Dev nD) : Valuation τ sig (Elt F) := Function.update (U3 m c) main_v2 (result m c)
/-- The buffers at the end. -/
abbrev W4 : Vals (F := F) := fun c b => U4 m c b

/-- The first feature array after the first call. -/
theorem U1_fx (c : Dev nD) : U1 m c main_v0_0 = (dat0 (U0 m) c).arrAt 2 cfg0.N := by
  unfold U1
  rw [Function.update_of_ne (StableHlo.devRef_ne_of_ne (by decide)), Function.update_self]
/-- The second feature array after the first call. -/
theorem U1_fy (c : Dev nD) : U1 m c main_v0_1 = (dat0 (U0 m) c).arrAt 3 cfg0.N := by
  unfold U1
  rw [Function.update_self]
/-- The first call changes nothing else. -/
theorem U1_of_ne (c : Dev nD) (b : Ref sig .tc) (h : b ≠ main_v0_0) (h' : b ≠ main_v0_1) : U1 m c b = V0 m c b := by
  unfold U1
  rw [Function.update_of_ne (StableHlo.devRef_ne_of_ne h'), Function.update_of_ne (StableHlo.devRef_ne_of_ne h)]
/-- The chunks after the second call. -/
theorem U2_res (c : Dev nD) : U2 m c main_v1 = res1 (W1 m) c := by
  unfold U2
  rw [Function.update_self]
/-- The second call changes nothing else. -/
theorem U2_of_ne (c : Dev nD) (b : Ref sig .tc) (h : b ≠ main_v1) : U2 m c b = U1 m c b := by
  unfold U2
  rw [Function.update_of_ne (StableHlo.devRef_ne_of_ne h)]
/-- The result after the third call. -/
theorem U4_res (c : Dev nD) : U4 m c main_v2 = result m c := by
  unfold U4
  rw [Function.update_self]
/-- The third call changes nothing else. -/
theorem U4_of_ne (c : Dev nD) (b : Ref sig .tc) (h : b ≠ main_v2) : U4 m c b = U3 m c b := by
  unfold U4
  rw [Function.update_of_ne (StableHlo.devRef_ne_of_ne h)]

/-- The same as the unknowns of the generated valuations. -/
def outs : Outs (F := F) := fun j r c => match j with
  | 1 => U1 m c r
  | 2 => U2 m c r
  | _ => U4 m c r

omit [FloatOps F] in
/-- A valuation that differs from another at one reference at most is it updated there. -/
theorem upd1 (f g : Valuation τ sig (Elt F)) (b : DevRef τ sig) (h : ∀ x, x ≠ b → g x = f x) : Function.update f b (g b) = g := by
  funext x
  rcases eq_or_ne x b with rfl | hx
  · rw [Function.update_self]
  · rw [Function.update_of_ne hx, h x hx]
omit [FloatOps F] in
/-- A valuation that differs from another at two references at most is it updated there. -/
theorem upd2 (f g : Valuation τ sig (Elt F)) (b b' : DevRef τ sig) (h : ∀ x, x ≠ b → x ≠ b' → g x = f x) :
    Function.update (Function.update f b (g b)) b' (g b') = g := by
  refine upd1 _ _ _ fun x hx => ?_
  rcases eq_or_ne x b with rfl | hx'
  · rw [Function.update_self]
  · rw [Function.update_of_ne hx', h x hx' hx]

/-- The unknown of the first call; -/
theorem outs_1 (r : Ref sig .tc) (c : Dev nD) : outs m 1 r c = U1 m c r := rfl
/-- of the second; -/
theorem outs_2 (r : Ref sig .tc) (c : Dev nD) : outs m 2 r c = U2 m c r := rfl
/-- of the third. -/
theorem outs_4 (r : Ref sig .tc) (c : Dev nD) : outs m 4 r c = U4 m c r := rfl

/-- The first call changes no device reference but its two results. -/
theorem U1_off (c : Dev nD) (x : DevRef τ sig) (h : x ≠ Proc.devRef .tc main_v0_0) (h' : x ≠ Proc.devRef .tc main_v0_1) : U1 m c x = V0 m c x := by
  unfold U1; rw [Function.update_of_ne h', Function.update_of_ne h]
/-- The second call changes no device reference but its result. -/
theorem U2_off (c : Dev nD) (x : DevRef τ sig) (h : x ≠ Proc.devRef .tc main_v1) : U2 m c x = U1 m c x := by
  unfold U2; rw [Function.update_of_ne h]
/-- The third call changes no device reference but its result. -/
theorem U4_off (c : Dev nD) (x : DevRef τ sig) (h : x ≠ Proc.devRef .tc main_v2) : U4 m c x = U3 m c x := by
  unfold U4; rw [Function.update_of_ne h]

/-- The generated valuation after the first call is `U1`; -/
theorem V1_eq (c : Dev nD) : V1 m (outs m) c = U1 m c := by
  have h := upd2 (V0 m c) (U1 m c) (Proc.devRef .tc main_v0_0) (Proc.devRef .tc main_v0_1) (U1_off m c)
  unfold V1
  rw [outs_1, outs_1]
  exact h
/-- after the second, `U2`; -/
theorem V2_eq (c : Dev nD) : V2 m (outs m) c = U2 m c := by
  have h := upd1 (U1 m c) (U2 m c) (Proc.devRef .tc main_v1) (U2_off m c)
  unfold V2
  rw [outs_2, V1_eq]
  exact h
/-- after the copy, `U3`; -/
theorem V3_eq (c : Dev nD) : V3 m (outs m) c = U3 m c := by
  unfold V3 U3
  rw [V2_eq]
/-- after the third, `U4`. -/
theorem V4_eq (c : Dev nD) : V4 m (outs m) c = U4 m c := by
  have h := upd2 (U3 m c) (U4 m c) (Proc.devRef .tc main_v2) (Proc.devRef .tc main_v1) (fun x h _ => U4_off m c x h)
  unfold V4
  rw [outs_4, outs_4, V3_eq]
  exact h

end Cert.Proof.Ki

end
-- ==== Proof.Ki.Reg0.lean ====
/-
  A pallas_call as a segment of the program's run.
-/
module

public import proofs.«01_k».proof.Proof.Ki.Data

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

open Idealize.ShloMosaic.Pipeline (Seg HostSeg RegionSeg)

variable (Va Vb Vc Vp : Vals (F := F))

set_option backward.isDefEq.respectTransparency.types false in
/-- Call 0 as a segment: entered with every unscoped buffer at `Va`, left with them at `Vp`, which is `Va` but at the
    call's outputs. -/
def reg0 (h2 : ∀ c, Vp c main_v0_0 = (dat0 Va c).arrAt 2 cfg0.N) (h3 : ∀ c, Vp c main_v0_1 = (dat0 Va c).arrAt 3 cfg0.N) (hne : ∀ c (b : Ref sig .tc), b ≠ main_v0_0 → b ≠ main_v0_1 → Vp c b = Va c b) :
    RegionSeg (pcfgs (F := F)) adm (pdats Va Vb Vc) () defs₀ 𝒱₀ L lv 0 where
  win := launch0.win.to₀
  block_pos := launch0.block_pos
  stage_whole := launch0.stage_whole
  K := PEmpty
  osem k := k.elim
  ho := Pipeline.OwnSemFacts.none _
  hbody c := (body_obligation0 Va c).loose
  hwaits := Pipeline.hwaits_of_owed_zero _ _ _ _ L lv 0 fun _ _ => rfl
  pre c := iprop(unscopedBufs c (Va c) ∗ R c)
  post c := iprop(unscopedBufs c (Vp c) ∗ R c)
  X _ := BI.emp
  Y _ := BI.emp
  Z c := Pipeline.unscopedRest (Ix := Unit) (Name := ℕ) (U := UU) (Lvl := ℕ) spec0 c (Va c)
  hentry c := by
    rw [Pipeline.ownSems0_none]
    have hsplit := Pipeline.arrays_of_unscopedBufs (p := 0) (pcfgs (F := F)) adm (pdats Va Vb Vc) launch0.win
      launch0.arr_whole c ((pdats Va Vb Vc 0 c).share_full fun _ => rfl) (Va c) (A_eq0 Va c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb Vc 0 c).Φ 0 = (Pipeline.scopedRest (Ix := Unit) (Name := ℕ) (U := UU) (Lvl := ℕ) (Val := Elt F) spec0 c : sProp 𝕄) from rfl]
    iintro ⟨-, -, Hr⟩; iexact Hr
  hout c := by
    rw [Pipeline.ownSems0_none, show (pdats Va Vb Vc 0 c).Φ (Fin.last _) = (Pipeline.scopedRest (Ix := Unit) (Name := ℕ) (U := UU) (Lvl := ℕ) (Val := Elt F) spec0 c : sProp 𝕄) from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pdats Va Vb Vc) ((pdats Va Vb Vc 0 c).share_full fun _ => rfl)
      (Va c) (Vp c) ((pdats Va Vb Vc 0 c).arrAt · cfg0.N)
      (fun w => by
        fin_cases w
        · exact ((dat0 Va c).arrAt_in 0 rfl _).trans (hne c main_arg0 (by decide) (by decide)).symm
        · exact ((dat0 Va c).arrAt_in 1 rfl _).trans (hne c main_arg1 (by decide) (by decide)).symm
        · exact (h2 c).symm
        · exact (h3 c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Ki

end
-- ==== Proof.Ki.Reg1.lean ====
/-
  A pallas_call as a segment of the program's run.
-/
module

public import proofs.«01_k».proof.Proof.Ki.Data

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

open Idealize.ShloMosaic.Pipeline (Seg HostSeg RegionSeg)

variable (Va Vb Vc Vp : Vals (F := F))

/-- The second call's own semaphores. -/
abbrev osem1 : Fin 4 → SemLoc sig := ![.dma sem1_0, .dma sem1_1, .dma sem1_2, .dma sem1_3]
/-- They are scoped, distinct and no staging semaphore. -/
theorem ownSemFacts1 : Pipeline.OwnSemFacts spec1 osem1 := by decide
/-- They at zero. -/
abbrev sems0 (c : Dev nD) : sProp 𝕄 :=
  iprop(semVal ((c : Thread nD τ), SemLoc.dma sem1_0) 0 ∗ semVal ((c : Thread nD τ), SemLoc.dma sem1_1) 0
    ∗ semVal ((c : Thread nD τ), SemLoc.dma sem1_2) 0 ∗ semVal ((c : Thread nD τ), SemLoc.dma sem1_3) 0)
omit [FloatOps F] in
/-- The call's own cells at zero, listed. -/
theorem ownSems0_eq1 (c : Dev nD) :
    (Pipeline.ownSems0 (Ix := Unit) (Name := ℕ) (U := UU) (Lvl := ℕ) (Val := Elt F) (τ := τ) osem1 c : sProp 𝕄) = sems0 c :=
  Pipeline.ownSems0_eq_of_list c osem1 [0, 1, 2, 3] (by decide) (by decide)

/-- Slot 0's buffer as the scoped buffers list it. -/
theorem idle_slot0 (c : Dev nD) : (idle c (Memref.whole cc1_scratch0 : Memref sig .tc .vmem S1192x614 .f32) sem1_0 : sProp 𝕄)
    = iprop((∃ f : Buf (Elt F) ((c : Thread nD τ).loc cc1_scratch0), ((c : Thread nD τ).loc cc1_scratch0) ↦{fullShare} f)
      ∗ semVal ((c : Thread nD τ), SemLoc.dma sem1_0) 0) :=
  congrArg (fun P : sProp 𝕄 => iprop(P ∗ semVal ((c : Thread nD τ), SemLoc.dma sem1_0) 0))
    (congrArg (fun P : Buf (Elt F) ((c : Thread nD τ).loc cc1_scratch0) → sProp 𝕄 => iprop(∃ f, P f)) (funext fun f => own_whole c cc1_scratch0 f))
/-- Slot 1's buffer as the scoped buffers list it. -/
theorem idle_slot1 (c : Dev nD) : (idle c (Memref.whole cc1_scratch1 : Memref sig .tc .vmem S1192x614 .f32) sem1_1 : sProp 𝕄)
    = iprop((∃ f : Buf (Elt F) ((c : Thread nD τ).loc cc1_scratch1), ((c : Thread nD τ).loc cc1_scratch1) ↦{fullShare} f)
      ∗ semVal ((c : Thread nD τ), SemLoc.dma sem1_1) 0) :=
  congrArg (fun P : sProp 𝕄 => iprop(P ∗ semVal ((c : Thread nD τ), SemLoc.dma sem1_1) 0))
    (congrArg (fun P : Buf (Elt F) ((c : Thread nD τ).loc cc1_scratch1) → sProp 𝕄 => iprop(∃ f, P f)) (funext fun f => own_whole c cc1_scratch1 f))
/-- Slot 2's buffer as the scoped buffers list it. -/
theorem idle_slot2 (c : Dev nD) : (idle c (Memref.whole cc1_scratch2 : Memref sig .tc .vmem S1192x614 .f32) sem1_2 : sProp 𝕄)
    = iprop((∃ f : Buf (Elt F) ((c : Thread nD τ).loc cc1_scratch2), ((c : Thread nD τ).loc cc1_scratch2) ↦{fullShare} f)
      ∗ semVal ((c : Thread nD τ), SemLoc.dma sem1_2) 0) :=
  congrArg (fun P : sProp 𝕄 => iprop(P ∗ semVal ((c : Thread nD τ), SemLoc.dma sem1_2) 0))
    (congrArg (fun P : Buf (Elt F) ((c : Thread nD τ).loc cc1_scratch2) → sProp 𝕄 => iprop(∃ f, P f)) (funext fun f => own_whole c cc1_scratch2 f))
/-- Slot 3's buffer as the scoped buffers list it. -/
theorem idle_slot3 (c : Dev nD) : (idle c (Memref.whole cc1_scratch3 : Memref sig .tc .vmem S1192x614 .f32) sem1_3 : sProp 𝕄)
    = iprop((∃ f : Buf (Elt F) ((c : Thread nD τ).loc cc1_scratch3), ((c : Thread nD τ).loc cc1_scratch3) ↦{fullShare} f)
      ∗ semVal ((c : Thread nD τ), SemLoc.dma sem1_3) 0) :=
  congrArg (fun P : sProp 𝕄 => iprop(P ∗ semVal ((c : Thread nD τ), SemLoc.dma sem1_3) 0))
    (congrArg (fun P : Buf (Elt F) ((c : Thread nD τ).loc cc1_scratch3) → sProp 𝕄 => iprop(∃ f, P f)) (funext fun f => own_whole c cc1_scratch3 f))
/-- The second call's invariant at its start, from the result at its first contents, the semaphores and the scoped buffers. -/
theorem enter1 (c : Dev nD) : iprop(((c : Thread nD τ).loc main_v1 ↦{fullShare} Vb c main_v1) ∗ sems0 c
    ∗ Pipeline.scopedRest (Ix := Unit) (Name := ℕ) (U := UU) (Lvl := ℕ) (Val := Elt F) spec1 c) ⊢ PhiS Vb c 0 := by
  rw [scopedRest1_eq]
  rw [show PhiS Vb c 0 = iprop(idles c ∗ resS c (fromS 0) (Vb c main_v1) ∗ others c) from rfl]
  unfold idles others resS
  rw [from_zero, idle_slot0, idle_slot1, idle_slot2, idle_slot3]
  iintro ⟨Hv, ⟨S0, S1, S2, S3⟩, A0, A1, A2, A3, A4, A5, A6, A7, B0, B1, B2, B3, C0, C1, C2, C3, C4, C5⟩
  isplitl [B0 B1 B2 B3 S0 S1 S2 S3]
  · isplitl [B0 S0]
    · isplitl [B0]; · iexact B0
      iexact S0
    isplitl [B1 S1]
    · isplitl [B1]; · iexact B1
      iexact S1
    isplitl [B2 S2]
    · isplitl [B2]; · iexact B2
      iexact S2
    isplitl [B3]; · iexact B3
    iexact S3
  isplitl [Hv]; · iexact Hv
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [C0]; · iexact C0
  isplitl [C1]; · iexact C1
  isplitl [C2]; · iexact C2
  isplitl [C3]; · iexact C3
  isplitl [C4]; · iexact C4
  iexact C5

/-- What the second call's invariant at its end gives back: the result as computed, the semaphores and the scoped buffers. -/
theorem leave1 (c : Dev nD) : PhiS Vb c 18 ⊢ iprop(((c : Thread nD τ).loc main_v1 ↦{fullShare} res1 Vb c) ∗ sems0 c
    ∗ Pipeline.scopedRest (Ix := Unit) (Name := ℕ) (U := UU) (Lvl := ℕ) (Val := Elt F) spec1 c) := by
  rw [scopedRest1_eq]
  rw [show PhiS Vb c 18 = iprop(idles c ∗ resS c (fromS 72) (Vb c main_v1) ∗ resS c (belowS 72) (res1 Vb c) ∗ others c) from rfl]
  unfold idles others resS
  rw [idle_slot0, idle_slot1, idle_slot2, idle_slot3]
  iintro ⟨⟨⟨B0, S0⟩, ⟨B1, S1⟩, ⟨B2, S2⟩, ⟨B3, S3⟩⟩, Hf, Hb, A0, A1, A2, A3, A4, A5, A6, A7, C0, C1, C2, C3, C4, C5⟩
  isplitl [Hf Hb]
  · iapply (all_join c (Vb c main_v0_0) (Vb c main_v0_1) (Vb c main_v1))
    isplitl [Hb]; · iexact Hb
    iexact Hf
  isplitl [S0 S1 S2 S3]
  · isplitl [S0]; · iexact S0
    isplitl [S1]; · iexact S1
    isplitl [S2]; · iexact S2
    iexact S3
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [B0]; · iexact B0
  isplitl [B1]; · iexact B1
  isplitl [B2]; · iexact B2
  isplitl [B3]; · iexact B3
  isplitl [C0]; · iexact C0
  isplitl [C1]; · iexact C1
  isplitl [C2]; · iexact C2
  isplitl [C3]; · iexact C3
  isplitl [C4]; · iexact C4
  iexact C5

set_option backward.isDefEq.respectTransparency.types false in
/-- Call 1 as a segment: entered with every unscoped buffer at `Vb`, left with them at `Vp`, which is `Vb` but at the call's
    result. -/
def reg1 (h1 : ∀ c, Vp c main_v1 = res1 Vb c) (hne : ∀ c (b : Ref sig .tc), b ≠ main_v1 → Vp c b = Vb c b) :
    RegionSeg (pcfgs (F := F)) adm (pdats Va Vb Vc) () defs₀ 𝒱₀ L lv 1 where
  win := launch1.win.to₀
  block_pos := launch1.block_pos
  stage_whole := launch1.stage_whole
  K := Fin 4
  osem := osem1
  ho := ownSemFacts1
  hbody c := (body_obligation1 Vb c).loose
  hwaits := Pipeline.hwaits_of_owed_zero _ _ _ _ L lv 1 fun _ _ => rfl
  pre c := iprop(unscopedBufs c (Vb c) ∗ R c)
  post c := iprop(unscopedBufs c (Vp c) ∗ R c)
  X c := iprop(((c : Thread nD τ).loc main_v1 ↦{fullShare} Vb c main_v1) ∗ sems0 c)
  Y c := iprop((c : Thread nD τ).loc main_v1 ↦{fullShare} res1 Vb c)
  Z c := iprop(((c : Thread nD τ).loc main_arg0 ↦{fullShare} Vb c main_arg0) ∗ ((c : Thread nD τ).loc main_arg1 ↦{fullShare} Vb c main_arg1)
    ∗ ((c : Thread nD τ).loc main_v2 ↦{fullShare} Vb c main_v2))
  hentry c := by
    rw [ownSems0_eq1]
    have hsplit := (Pipeline.arrays_of_unscopedBufs (p := 1) (pcfgs (F := F)) adm (pdats Va Vb Vc) launch1.win
      launch1.arr_whole c ((pdats Va Vb Vc 1 c).share_full fun _ => rfl) (Vb c) (A_eq1 Vb c)).trans
      (sep_mono .rfl (Entails.of_eq (unscopedRest1_eq c (Vb c))))
    iintro ⟨⟨Hub, HO⟩, Hos, -⟩
    ihave H := hsplit $$ Hub
    icases H with ⟨Ha, H0, H1, Hv1, H2⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hv1 Hos]
    · isplitl [Hv1]; · iexact Hv1
      iexact Hos
    isplitl [H0]; · iexact H0
    isplitl [H1]; · iexact H1
    iexact H2
  hin c := by
    rw [show (pdats Va Vb Vc 1 c).Φ 0 = PhiS Vb c 0 from rfl]
    iintro ⟨⟨Hv, Hs⟩, -, Hr⟩
    iapply (enter1 Vb c)
    isplitl [Hv]; · iexact Hv
    isplitl [Hs]; · iexact Hs
    iexact Hr
  hout c := by
    rw [ownSems0_eq1, show (pdats Va Vb Vc 1 c).Φ (Fin.last _) = PhiS Vb c 18 from rfl]
    exact leave1 Vb c
  hexit c := by
    have hjoin := Pipeline.unscopedBufs_of_arrays (p := 1) (pcfgs (F := F)) adm (Ix := Unit) (Name := ℕ) (U := UU) (Lvl := ℕ)
      launch1.win launch1.arr_whole c (pdats Va Vb Vc) ((pdats Va Vb Vc 1 c).share_full fun _ => rfl)
      (Vp c) (Vp c) ((pdats Va Vb Vc 1 c).arrAt · cfg1.N)
      (fun w => by
        fin_cases w
        · exact ((dat1 Vb c).arrAt_in 0 rfl _).trans (hne c main_v0_0 (by decide)).symm
        · exact ((dat1 Vb c).arrAt_in 1 rfl _).trans (hne c main_v0_1 (by decide)).symm)
      (fun b hb => rfl)
    rw [show Pipeline.unscopedRest (Ix := Unit) (Name := ℕ) (U := UU) (Lvl := ℕ) (Pipeline.pin pcfgs adm 1).spec c (Vp c) = _ from unscopedRest1_eq c (Vp c),
      hne c main_arg0 (by decide), hne c main_arg1 (by decide), hne c main_v2 (by decide), h1 c] at hjoin
    iintro ⟨Ha, HO, Hv, H0, H1, H2⟩
    imodintro
    isplitl [Ha Hv H0 H1 H2]
    · iapply hjoin
      isplitl [Ha]; · iexact Ha
      isplitl [H0]; · iexact H0
      isplitl [H1]; · iexact H1
      isplitl [Hv]; · iexact Hv
      iexact H2
    unfold Pipeline.Dat.owesAt Pipeline.owesWithin
    icases HO with ⟨%W, -, HO⟩; iexists W; iexact HO

end Cert.Proof.Ki

end
-- ==== Proof.Ki.Reg2.lean ====
/-
  A pallas_call as a segment of the program's run.
-/
module

public import proofs.«01_k».proof.Proof.Ki.Data

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

open Idealize.ShloMosaic.Pipeline (Seg HostSeg RegionSeg)

variable (Va Vb Vc Vp : Vals (F := F))

set_option backward.isDefEq.respectTransparency.types false in
/-- Call 2 as a segment: entered with every unscoped buffer at `Vc`, left with them at `Vp`, which is `Vc` but at the
    call's outputs. -/
def reg2 (h2 : ∀ c, Vp c main_v2 = (dat2 Vc c).arrAt 2 cfg2.N) (hne : ∀ c (b : Ref sig .tc), b ≠ main_v2 → Vp c b = Vc c b) :
    RegionSeg (pcfgs (F := F)) adm (pdats Va Vb Vc) () defs₀ 𝒱₀ L lv 2 where
  win := launch2.win.to₀
  block_pos := launch2.block_pos
  stage_whole := launch2.stage_whole
  K := PEmpty
  osem k := k.elim
  ho := Pipeline.OwnSemFacts.none _
  hbody c := (body_obligation2 Vc c).loose
  hwaits := Pipeline.hwaits_of_owed_zero _ _ _ _ L lv 2 fun _ _ => rfl
  pre c := iprop(unscopedBufs c (Vc c) ∗ R c)
  post c := iprop(unscopedBufs c (Vp c) ∗ R c)
  X _ := BI.emp
  Y _ := BI.emp
  Z c := Pipeline.unscopedRest (Ix := Unit) (Name := ℕ) (U := UU) (Lvl := ℕ) spec2 c (Vc c)
  hentry c := by
    rw [Pipeline.ownSems0_none]
    have hsplit := Pipeline.arrays_of_unscopedBufs (p := 2) (pcfgs (F := F)) adm (pdats Va Vb Vc) launch2.win
      launch2.arr_whole c ((pdats Va Vb Vc 2 c).share_full fun _ => rfl) (Vc c) (A_eq2 Vc c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb Vc 2 c).Φ 0 = (Pipeline.scopedRest (Ix := Unit) (Name := ℕ) (U := UU) (Lvl := ℕ) (Val := Elt F) spec2 c : sProp 𝕄) from rfl]
    iintro ⟨-, -, Hr⟩; iexact Hr
  hout c := by
    rw [Pipeline.ownSems0_none, show (pdats Va Vb Vc 2 c).Φ (Fin.last _) = (Pipeline.scopedRest (Ix := Unit) (Name := ℕ) (U := UU) (Lvl := ℕ) (Val := Elt F) spec2 c : sProp 𝕄) from rfl]
    iintro Hr
    isplitr; · iempintro
    isplitr; · iempintro
    iexact Hr
  hexit c := by
    have hjoin := Pipeline.unscopedBufs_of_arrays (p := 2) (pcfgs (F := F)) adm (Ix := Unit) (Name := ℕ) (U := UU) (Lvl := ℕ)
      launch2.win launch2.arr_whole c (pdats Va Vb Vc) ((pdats Va Vb Vc 2 c).share_full fun _ => rfl)
      (Vc c) (Vp c) ((pdats Va Vb Vc 2 c).arrAt · cfg2.N)
      (fun w => by
        fin_cases w
        · exact ((dat2 Vc c).arrAt_in 0 rfl _).trans (hne c main_v0_0 (by decide)).symm
        · exact ((dat2 Vc c).arrAt_in 1 rfl _).trans (hne c main_v0_1 (by decide)).symm
        · exact (h2 c).symm)
      (fun b hb => hne c b (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Ki

end
-- ==== Proof.Ki.Recs.lean ====
/-
  The three pallas_calls' records in the run, and how each is entered and left.
-/
module

public import proofs.«01_k».proof.Proof.Ki.Vals
public import proofs.«01_k».proof.Proof.Ki.Reg0
public import proofs.«01_k».proof.Proof.Ki.Reg1
public import proofs.«01_k».proof.Proof.Ki.Reg2

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

open Idealize.ShloMosaic.Pipeline (Seg HostSeg RegionSeg)

variable (m : (ℓ : Loc nD τ sig) → Buf (Elt F) ℓ)

/-- The launch element: the pipelines' cells and transfers; no counter yet. -/
def u₀ : UU := (initOf (Pipeline.cells cfgs cellOf_inj) (Pipeline.launchToks cfgs cellOf_inj), 1)

/-- The first call's record in the run. -/
def rec0 := reg0 (U0 m) (W1 m) (W3 m) (W1 m) (U1_fx m) (U1_fy m) (U1_of_ne m)
/-- The second call's record in the run. -/
def rec1 := reg1 (U0 m) (W1 m) (W3 m) (W2 m) (U2_res m) (U2_of_ne m)
/-- The third call's record in the run. -/
def rec2 := reg2 (U0 m) (W1 m) (W3 m) (W4 m) (fun c => (U4_res m c).trans (by unfold result; rfl)) (U4_of_ne m)

omit [FloatOps F] in
/-- A core's unscoped buffers at a valuation, and what it owes. -/
theorem held_bufs (c : Dev nD) (W : Valuation τ sig (Elt F)) :
    (iprop(StableHlo.held (c : Thread nD τ) (Pipeline.ucRefs τ sig) W ∗ R c) : sProp 𝕄) = iprop(unscopedBufs c (fun b => W b) ∗ R c) := by
  rw [Pipeline.unscopedBufs_held]
/-- The launch's state is what the first call is entered with. -/
theorem enter0 (c : Dev nD) : iprop(StableHlo.held (c : Thread nD τ) (Pipeline.ucRefs τ sig) (V0 m c) ∗ R c) ⊢ (rec0 m).pre c :=
  Entails.of_eq (held_bufs c (V0 m c))
/-- What the second call leaves is what the copy starts from. -/
theorem leave1' (c : Dev nD) : (rec1 m).post c ⊢ iprop(StableHlo.held (c : Thread nD τ) (Pipeline.ucRefs τ sig) (V2 m (outs m) c) ∗ R c) := by
  rw [V2_eq, held_bufs]
  exact .rfl
/-- What the copy leaves is what the third call is entered with. -/
theorem enter2 (c : Dev nD) : iprop(StableHlo.held (c : Thread nD τ) (Pipeline.ucRefs τ sig) (V3 m (outs m) c) ∗ R c) ⊢ (rec2 m).pre c := by
  rw [V3_eq, held_bufs]
  exact .rfl
/-- What the third call leaves is the buffers at the end. -/
theorem leave2 (c : Dev nD) : (rec2 m).post c ⊢ iprop(StableHlo.held (c : Thread nD τ) (Pipeline.ucRefs τ sig) (U4 m c) ∗ R c) := by
  rw [held_bufs]
  exact .rfl

end Cert.Proof.Ki

end
-- ==== Proof.Ki.Run.lean ====
/-
  The three pallas_calls in sequence: every argument ends as launched, every semaphore counter at zero, and the result
  holds what the three calls compute from the arguments.
-/
module

public import proofs.«01_k».proof.Proof.Ki.Recs

@[expose] public section

set_option maxRecDepth 16384

noncomputable section

namespace Cert.Proof.Ki

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

open Idealize.ShloMosaic.Pipeline (Seg HostSeg RegionSeg)

variable (m : (ℓ : Loc nD τ sig) → Buf (Elt F) ℓ) (ρ : Dev nD → PrngReg)

set_option backward.isDefEq.respectTransparency.types false in
/-- The run: from any memory with zero counters every weakly fair execution of the program terminates, and every final state
    has each argument as launched, the result at `result`, and every semaphore counter at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1))
      ∧ r.2.mem ((c.tc : Thread nD τ).loc main_v2) = result m c)
      ∧ r.2.sem = fun _ => 0) := by
  refine Pipeline.θ_run_regions_kit_dev_sems (pcfgs (F := F)) adm (pdats (U0 m) (W1 m) (W3 m)) () cellOf_inj EP defs₀ 𝒱₀ L lv m ρ main
    (segs m (outs m) 𝒱₀ L lv (fun _ c => R c) () (pdats (U0 m) (W1 m) (W3 m)) (rec0 m) (rec1 m) (rec2 m))
    (fun c Q => by
      rewrite [main_chain c, Seg.run_eq_chain,
        show (segs m (outs m) 𝒱₀ L lv (fun _ c => R c) () (pdats (U0 m) (W1 m) (W3 m)) (rec0 m) (rec1 m) (rec2 m) c).map Seg.prog = [
          Prog.lift (.customCall (Pipeline.entry 0) ()),
          Prog.lift (.customCall (Pipeline.entry 1) ()),
          StableHlo.seq hostOps2,
          Prog.lift (.customCall (Pipeline.entry 2) ()) ] from rfl]
      dsimp (config := { failIfUnchanged := false }) only
      exact .rfl)
    (fun c => by simp only [segs, Seg.pipes_host, Seg.pipes_region, Seg.pipes_nil]; decide) (O₀ := fun _ => 0) (hL := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (U4 m c))
    (hch := fun c => ⟨?_, ?_, ?_, ?_, ?_⟩)
    (hinit := ?_) (QY := fun c s => (s.mem ((c.tc : Thread nD τ).loc main_arg0) = m ((c.tc : Thread nD τ).loc main_arg0)
        ∧ s.mem ((c.tc : Thread nD τ).loc main_arg1) = m ((c.tc : Thread nD τ).loc main_arg1))
      ∧ s.mem ((c.tc : Thread nD τ).loc main_v2) = result m c)
    (hfin := fun c s' => ?_) (hQ := fun _ h hz => ⟨h, funext fun g => hz g (.inr (regions_no_unscoped g.2))⟩)
  · exact enter0 m c
  · exact .rfl
  · exact leave1' m c
  · exact enter2 m c
  · exact leave2 m c
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    icases Hr with ⟨%h, HSI⟩
    imodintro
    isplitr
    · ipureintro
      rw [← V4_eq] at h
      refine ⟨⟨(h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c)⟩, ?_⟩
      refine (h (Proc.devRef .tc main_v2) (Finset.mem_filter.mpr ⟨StableHlo.devRef_mem_tcRefs main_v2, by decide⟩)).trans ?_
      rw [V4_eq]
      exact U4_res m c
    · iexact HSI

end Cert.Proof.Ki

end
-- ==== Proof.Kb.Block.lean ====
/-
  The block of pair rows that both the second and the third body compute eight times over, as one function of the word
  compared against, the two stretches of second-factor rows and the first-factor row.
-/
module

public import proofs.«01_k».proof.Proof.Kb.Base

@[expose] public section

set_option maxRecDepth 16384

noncomputable section

namespace Cert.Proof.Kb

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- The 149 pair rows of one first index `x`: row `r` is the second factor's row `r` where `r < x` (from `lo`) and its
    row `r + 1` otherwise (from `hi`), plus the first factor's row. -/
def pairRows (x : BitVec 32) (lo hi : Vec F S1x149x614 .f32) (row : Vec F S1x1x614 .f32) : FVec F S149x614 .f32 :=
  addf (select (broadcastTo S149x614 (shapeCast S149x1 (cmpi .slt (iota .tc S149x1 32 [0] iota_S149x1_d0_w32)
      (broadcast S149x1 x)) shapeCasts_S149x1_S149x1) broadcasts_S149x1_S149x614)
      (shapeCast S149x614 lo shapeCasts_S1x149x614_S149x614) (shapeCast S149x614 hi shapeCasts_S1x149x614_S149x614))
    (broadcastTo S149x614 (shapeCast S1x614 (shapeCast S1x614 row shapeCasts_S1x1x614_S1x614) shapeCasts_S1x614_S1x614)
      broadcasts_S1x614_S149x614)

end Cert.Proof.Kb

end
-- ==== Proof.Kb.Data.lean ====
/-
  The proof data of the three pallas_calls, together.
-/
module

public import proofs.«01_k».proof.Proof.Kb.Region0
public import proofs.«01_k».proof.Proof.Kb.Region1
public import proofs.«01_k».proof.Proof.Kb.Region2
public import proofs.«01_k».proof.Proof.Gen.Kernel.Launch
public import proofs.«01_k».proof.Proof.Gen.Kernel.Regions
public import Idealize.ShloMosaic.Lib.Pipeline.Frame
public import Idealize.ShloMosaic.Lib.Pipeline.Regions

@[expose] public section

set_option maxRecDepth 16384

noncomputable section

namespace Cert.Proof.Kb

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

open Idealize.ShloMosaic.Pipeline (Seg HostSeg RegionSeg)

/-- The three pipelines' proof data, each over the buffers' contents at its start. -/
def pdats (Va Vb Vc : Vals (F := F)) : (p : Fin 3) → (c : Dev nD) → Dat τ (Elt F) Unit ℕ UU ℕ (cfgs p) c
  | ⟨0, _⟩, c => dat0 Va c
  | ⟨1, _⟩, c => dat1 Vb c
  | ⟨2, _⟩, c => dat2 Vc c

end Cert.Proof.Kb

end
-- ==== Proof.Kb.Recs.lean ====
/-
  The three pallas_calls' records in the run, and how each is entered and left.
-/
module

public import proofs.«01_k».proof.Proof.Kb.Vals
public import proofs.«01_k».proof.Proof.Kb.Reg0
public import proofs.«01_k».proof.Proof.Kb.Reg1
public import proofs.«01_k».proof.Proof.Kb.Reg2

@[expose] public section

set_option maxRecDepth 16384

noncomputable section

namespace Cert.Proof.Kb

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

open Idealize.ShloMosaic.Pipeline (Seg HostSeg RegionSeg)

variable (m : (ℓ : Loc nD τ sig) → Buf (Elt F) ℓ)

/-- The launch element: the pipelines' cells and transfers; no counter yet. -/
def u₀ : UU := (initOf (Pipeline.cells cfgs cellOf_inj) (Pipeline.launchToks cfgs cellOf_inj), 1)

/-- The first call's record in the run. -/
def rec0 := reg0 (U0 m) (W1 m) (W3 m) (W1 m) (U1_fx m) (U1_fy m) (U1_of_ne m)
/-- The second call's record in the run. -/
def rec1 := reg1 (U0 m) (W1 m) (W3 m) (W2 m) (U2_res m) (U2_of_ne m)
/-- The third call's record in the run. -/
def rec2 := reg2 (U0 m) (W1 m) (W3 m) (W4 m) (fun c => (U4_res m c).trans (by unfold result; rfl)) (U4_of_ne m)

omit [FloatOps F] in
/-- A core's unscoped buffers at a valuation, and what it owes. -/
theorem held_bufs (c : Dev nD) (W : Valuation τ sig (Elt F)) :
    (iprop(StableHlo.held (c : Thread nD τ) (Pipeline.ucRefs τ sig) W ∗ R c) : sProp 𝕄) = iprop(unscopedBufs c (fun b => W b) ∗ R c) := by
  rw [Pipeline.unscopedBufs_held]
/-- The launch's state is what the first call is entered with. -/
theorem enter0 (c : Dev nD) : iprop(StableHlo.held (c : Thread nD τ) (Pipeline.ucRefs τ sig) (V0 m c) ∗ R c) ⊢ (rec0 m).pre c :=
  Entails.of_eq (held_bufs c (V0 m c))
/-- What the second call leaves is what the copy starts from. -/
theorem leave1' (c : Dev nD) : (rec1 m).post c ⊢ iprop(StableHlo.held (c : Thread nD τ) (Pipeline.ucRefs τ sig) (V2 m (outs m) c) ∗ R c) := by
  rw [V2_eq, held_bufs]
  exact .rfl
/-- What the copy leaves is what the third call is entered with. -/
theorem enter2 (c : Dev nD) : iprop(StableHlo.held (c : Thread nD τ) (Pipeline.ucRefs τ sig) (V3 m (outs m) c) ∗ R c) ⊢ (rec2 m).pre c := by
  rw [V3_eq, held_bufs]
  exact .rfl
/-- What the third call leaves is the buffers at the end. -/
theorem leave2 (c : Dev nD) : (rec2 m).post c ⊢ iprop(StableHlo.held (c : Thread nD τ) (Pipeline.ucRefs τ sig) (U4 m c) ∗ R c) := by
  rw [held_bufs]
  exact .rfl

end Cert.Proof.Kb

end
-- ==== Proof.Ki.Feat.lean ====
/-
  The two feature arrays that the first call leaves, at a place.
-/
module

public import proofs.«01_k».proof.Proof.Ki.Region0
public import Idealize.ShloMosaic.Lib.Pointwise

@[expose] public section

set_option maxRecDepth 16384

noncomputable section

namespace Cert.Proof.Ki

open Cert.KernelIdeal Cert.KernelIdeal.Gen
open Idealize.ShloMosaic Idealize.ShloMosaic.TcCoe
open Idealize.ShloMosaic.Pipeline (Dat Cfg Window BodyObligation)

/-- The index maps of the first call's windows. -/
theorem idx0 : ∀ t : Fin cfg0.N, win0_0.index t = ![t.val, 0, 0] ∧ win0_1.index t = ![t.val, 0, 0] ∧ win0_2.index t = ![t.val, 0, 0]
    ∧ win0_3.index t = ![t.val, 0, 0] :=
  (by decide +kernel : ∀ t : Fin grid0.N, _)

/-- One batch of the first argument. -/
def slabA (x : Vec Ideal S4x150x150 .f32) (b : Fin 4) : Vec Ideal S1x150x150 .f32 := fun j => x (ix3 b (j 1) (j 2))
/-- One batch of the second argument. -/
def slabB (x : Vec Ideal S4x150x4 .f32) (b : Fin 4) : Vec Ideal S1x150x4 .f32 := fun j => x (ix3 b (j 1) (j 2))

/-- The first feature array, from the two arguments. -/
def featX (xa : Vec Ideal S4x150x150 .f32) (xb : Vec Ideal S4x150x4 .f32) : Vec Ideal S4x150x614 .f32 :=
  fun i => k0_pay10 (slabA xa (i 0)) (slabB xb (i 0)) (ix3 0 (i 1) (i 2))
/-- The second feature array, from the two arguments. -/
def featY (xa : Vec Ideal S4x150x150 .f32) (xb : Vec Ideal S4x150x4 .f32) : Vec Ideal S4x150x614 .f32 :=
  fun i => k0_pay11 (slabA xa (i 0)) (slabB xb (i 0)) (ix3 0 (i 1) (i 2))

variable (V : Vals (F := Ideal)) (c : Dev nD)

/-- The first input's block at a point is a batch of the first argument. -/
theorem iblk0_0 (t : Fin cfg0.N) (b : Fin 4) (hb : b.val = t.val) :
    (iblk0 V c 0 t : Vec Ideal S1x150x150 .f32) = slabA (V c main_arg0) b := by
  funext j
  unfold slabA
  blk_ext [iblk0, idx0 t]
/-- The second input's block at a point is a batch of the second argument. -/
theorem iblk0_1 (t : Fin cfg0.N) (b : Fin 4) (hb : b.val = t.val) :
    (iblk0 V c 1 t : Vec Ideal S1x150x4 .f32) = slabB (V c main_arg1) b := by
  funext j
  unfold slabB
  blk_ext [iblk0, idx0 t]

/-- The first output buffer is the stored block. -/
theorem out0x_eq (x0 : Vec Ideal S1x150x150 .f32) (x1 : Vec Ideal S1x150x4 .f32) : out0x x0 x1 = k0_pay10 x0 x1 := by
  unfold out0x
  rw [View.canon_cons_unit_lit _ _ _ (by decide), View.ld_unit_lit _ _ (by decide), View.ld_unit_lit _ _ (by decide)]
/-- The second output buffer is the stored block. -/
theorem out0y_eq (x0 : Vec Ideal S1x150x150 .f32) (x1 : Vec Ideal S1x150x4 .f32) : out0y x0 x1 = k0_pay11 x0 x1 := by
  unfold out0y
  rw [View.canon_cons_unit_lit _ _ _ (by decide), View.ld_unit_lit _ _ (by decide), View.ld_unit_lit _ _ (by decide)]

set_option maxHeartbeats 1000000 in
/-- The first feature array after the first call. -/
theorem arr0x_eq : (dat0 V c).arrAt 2 cfg0.N = featX (V c main_arg0) (V c main_arg1) := by
  refine (dat0 V c).arrAt_eq_of_covers 2 _ (by decide +kernel) fun t hf y => ?_
  blk_simp
  rw [after0_2]
  obtain ⟨I, hI⟩ : ∃ I : S4x150x614.Idx, I = (win0_2.blk t).view.emb y := ⟨_, rfl⟩
  have y0 : (y 0).val < 1 := (y 0).isLt
  have i0 : win0_2.index t 0 = t.val := by rw [(idx0 t).2.2.1]; rfl
  have i1 : win0_2.index t 1 = 0 := by rw [(idx0 t).2.2.1]; rfl
  have i2 : win0_2.index t 2 = 0 := by rw [(idx0 t).2.2.1]; rfl
  have e0 : (I 0).val = t.val := by
    rw [hI]; blk_simp; rw [i0]
  have e1 : (I 1).val = (y 1).val := by
    rw [hI]; blk_simp; rw [i1]; omega
  have e2 : (I 2).val = (y 2).val := by
    rw [hI]; blk_simp; rw [i2]; omega
  have hy : (y : S1x150x614.Idx) = ix3 (0 : Fin 1) (I 1 : Fin 150) (I 2 : Fin 614) := by
    funext a
    match a with
    | ⟨0, _⟩ => exact Fin.ext (by show (y 0).val = 0; omega)
    | ⟨1, _⟩ => exact Fin.ext e1.symm
    | ⟨2, _⟩ => exact Fin.ext e2.symm
  rw [← hI, out0x_eq, iblk0_0 V c t (I 0) e0, iblk0_1 V c t (I 0) e0]
  exact congrArg (k0_pay10 (slabA (V c main_arg0) (I 0)) (slabB (V c main_arg1) (I 0))) hy

set_option maxHeartbeats 1000000 in
/-- The second feature array after the first call. -/
theorem arr0y_eq : (dat0 V c).arrAt 3 cfg0.N = featY (V c main_arg0) (V c main_arg1) := by
  refine (dat0 V c).arrAt_eq_of_covers 3 _ (by decide +kernel) fun t hf y => ?_
  blk_simp
  rw [after0_3]
  obtain ⟨I, hI⟩ : ∃ I : S4x150x614.Idx, I = (win0_3.blk t).view.emb y := ⟨_, rfl⟩
  have y0 : (y 0).val < 1 := (y 0).isLt
  have i0 : win0_3.index t 0 = t.val := by rw [(idx0 t).2.2.2]; rfl
  have i1 : win0_3.index t 1 = 0 := by rw [(idx0 t).2.2.2]; rfl
  have i2 : win0_3.index t 2 = 0 := by rw [(idx0 t).2.2.2]; rfl
  have e0 : (I 0).val = t.val := by
    rw [hI]; blk_simp; rw [i0]
  have e1 : (I 1).val = (y 1).val := by
    rw [hI]; blk_simp; rw [i1]; omega
  have e2 : (I 2).val = (y 2).val := by
    rw [hI]; blk_simp; rw [i2]; omega
  have hy : (y : S1x150x614.Idx) = ix3 (0 : Fin 1) (I 1 : Fin 150) (I 2 : Fin 614) := by
    funext a
    match a with
    | ⟨0, _⟩ => exact Fin.ext (by show (y 0).val = 0; omega)
    | ⟨1, _⟩ => exact Fin.ext e1.symm
    | ⟨2, _⟩ => exact Fin.ext e2.symm
  rw [← hI, out0y_eq, iblk0_0 V c t (I 0) e0, iblk0_1 V c t (I 0) e0]
  exact congrArg (k0_pay11 (slabA (V c main_arg0) (I 0)) (slabB (V c main_arg1) (I 0))) hy

end Cert.Proof.Ki

end
-- ==== Proof.Ki.Ladder.lean ====
/-
  The two feature rows at a column: twelve pieces side by side.
-/
module

public import proofs.«01_k».proof.Proof.Ki.Feat

@[expose] public section

set_option maxRecDepth 16384

noncomputable section

namespace Cert.Proof.Ki

open Cert.KernelIdeal Cert.KernelIdeal.Gen
open Idealize.ShloMosaic Idealize.ShloMosaic.TcCoe

/-- Twelve pieces side by side. -/
abbrev beside (a0 a1 : FVec Ideal S150x4 .f32) (a2 a3 a4 a5 : FVec Ideal S150x150 .f32)
    (a6 a7 a8 a9 a10 a11 : FVec Ideal S150x1 .f32) : FVec Ideal S150x614 .f32 :=
  concatenate S150x614 1 [⟨S150x4, a0⟩, ⟨S150x4, a1⟩, ⟨S150x150, a2⟩, ⟨S150x150, a3⟩, ⟨S150x150, a4⟩, ⟨S150x150, a5⟩, ⟨S150x1, a6⟩, ⟨S150x1, a7⟩, ⟨S150x1, a8⟩, ⟨S150x1, a9⟩, ⟨S150x1, a10⟩, ⟨S150x1, a11⟩] concatenates_S150x4_S150x4_S150x150_S150x150_S150x150_S150x150_S150x1_S150x1_S150x1_S150x1_S150x1_S150x1_S150x614_d1

set_option maxHeartbeats 1000000 in
/-- The twelve pieces, read at a column. -/
theorem beside_at (a0 a1 : FVec Ideal S150x4 .f32) (a2 a3 a4 a5 : FVec Ideal S150x150 .f32)
    (a6 a7 a8 a9 a10 a11 : FVec Ideal S150x1 .f32) (n : Fin 150) (w : Fin 614) :
    beside a0 a1 a2 a3 a4 a5 a6 a7 a8 a9 a10 a11 (ix2 n w)
      = if h : w.val < 4 then a0 (ix2 n ⟨w.val, h⟩)
        else if h : w.val < 8 then a1 (ix2 n ⟨w.val - 4, by omega⟩)
        else if h : w.val < 158 then a2 (ix2 n ⟨w.val - 8, by omega⟩)
        else if h : w.val < 308 then a3 (ix2 n ⟨w.val - 158, by omega⟩)
        else if h : w.val < 458 then a4 (ix2 n ⟨w.val - 308, by omega⟩)
        else if h : w.val < 608 then a5 (ix2 n ⟨w.val - 458, by omega⟩)
        else if w.val < 609 then a6 (ix2 n 0)
        else if w.val < 610 then a7 (ix2 n 0)
        else if w.val < 611 then a8 (ix2 n 0)
        else if w.val < 612 then a9 (ix2 n 0)
        else if w.val < 613 then a10 (ix2 n 0)
        else a11 (ix2 n 0) := by
  unfold beside
  pointwise
  have hw := w.isLt
  by_cases c0 : w.val < 4
  · rw [dif_pos (show w.val < 4 by omega)]
    rw [dif_pos c0]
  by_cases c1 : w.val < 8
  · rw [dif_neg (show ¬ w.val < 4 by omega), dif_pos (show w.val - 4 < 4 by omega)]
    rw [dif_neg c0, dif_pos c1]
  by_cases c2 : w.val < 158
  · rw [dif_neg (show ¬ w.val < 4 by omega), dif_neg (show ¬ w.val - 4 < 4 by omega), dif_pos (show w.val - 4 - 4 < 150 by omega)]
    rw [dif_neg c0, dif_neg c1, dif_pos c2]
    exact congrArg (fun q => a2 (ix2 n q)) (Fin.ext (by show w.val - 4 - 4 = w.val - 8; omega))
  by_cases c3 : w.val < 308
  · rw [dif_neg (show ¬ w.val < 4 by omega), dif_neg (show ¬ w.val - 4 < 4 by omega), dif_neg (show ¬ w.val - 4 - 4 < 150 by omega), dif_pos (show w.val - 4 - 4 - 150 < 150 by omega)]
    rw [dif_neg c0, dif_neg c1, dif_neg c2, dif_pos c3]
    exact congrArg (fun q => a3 (ix2 n q)) (Fin.ext (by show w.val - 4 - 4 - 150 = w.val - 158; omega))
  by_cases c4 : w.val < 458
  · rw [dif_neg (show ¬ w.val < 4 by omega), dif_neg (show ¬ w.val - 4 < 4 by omega), dif_neg (show ¬ w.val - 4 - 4 < 150 by omega), dif_neg (show ¬ w.val - 4 - 4 - 150 < 150 by omega), dif_pos (show w.val - 4 - 4 - 150 - 150 < 150 by omega)]
    rw [dif_neg c0, dif_neg c1, dif_neg c2, dif_neg c3, dif_pos c4]
    exact congrArg (fun q => a4 (ix2 n q)) (Fin.ext (by show w.val - 4 - 4 - 150 - 150 = w.val - 308; omega))
  by_cases c5 : w.val < 608
  · rw [dif_neg (show ¬ w.val < 4 by omega), dif_neg (show ¬ w.val - 4 < 4 by omega), dif_neg (show ¬ w.val - 4 - 4 < 150 by omega), dif_neg (show ¬ w.val - 4 - 4 - 150 < 150 by omega), dif_neg (show ¬ w.val - 4 - 4 - 150 - 150 < 150 by omega), dif_pos (show w.val - 4 - 4 - 150 - 150 - 150 < 150 by omega)]
    rw [dif_neg c0, dif_neg c1, dif_neg c2, dif_neg c3, dif_neg c4, dif_pos c5]
    exact congrArg (fun q => a5 (ix2 n q)) (Fin.ext (by show w.val - 4 - 4 - 150 - 150 - 150 = w.val - 458; omega))
  by_cases c6 : w.val < 609
  · rw [dif_neg (show ¬ w.val < 4 by omega), dif_neg (show ¬ w.val - 4 < 4 by omega), dif_neg (show ¬ w.val - 4 - 4 < 150 by omega), dif_neg (show ¬ w.val - 4 - 4 - 150 < 150 by omega), dif_neg (show ¬ w.val - 4 - 4 - 150 - 150 < 150 by omega), dif_neg (show ¬ w.val - 4 - 4 - 150 - 150 - 150 < 150 by omega), dif_pos (show w.val - 4 - 4 - 150 - 150 - 150 - 150 < 1 by omega)]
    rw [dif_neg c0, dif_neg c1, dif_neg c2, dif_neg c3, dif_neg c4, dif_neg c5, if_pos c6]
    exact congrArg (fun q => a6 (ix2 n q)) (Fin.ext (by show w.val - 4 - 4 - 150 - 150 - 150 - 150 = 0; omega))
  by_cases c7 : w.val < 610
  · rw [dif_neg (show ¬ w.val < 4 by omega), dif_neg (show ¬ w.val - 4 < 4 by omega), dif_neg (show ¬ w.val - 4 - 4 < 150 by omega), dif_neg (show ¬ w.val - 4 - 4 - 150 < 150 by omega), dif_neg (show ¬ w.val - 4 - 4 - 150 - 150 < 150 by omega), dif_neg (show ¬ w.val - 4 - 4 - 150 - 150 - 150 < 150 by omega), dif_neg (show ¬ w.val - 4 - 4 - 150 - 150 - 150 - 150 < 1 by omega), dif_pos (show w.val - 4 - 4 - 150 - 150 - 150 - 150 - 1 < 1 by omega)]
    rw [dif_neg c0, dif_neg c1, dif_neg c2, dif_neg c3, dif_neg c4, dif_neg c5, if_neg c6, if_pos c7]
    exact congrArg (fun q => a7 (ix2 n q)) (Fin.ext (by show w.val - 4 - 4 - 150 - 150 - 150 - 150 - 1 = 0; omega))
  by_cases c8 : w.val < 611
  · rw [dif_neg (show ¬ w.val < 4 by omega), dif_neg (show ¬ w.val - 4 < 4 by omega), dif_neg (show ¬ w.val - 4 - 4 < 150 by omega), dif_neg (show ¬ w.val - 4 - 4 - 150 < 150 by omega), dif_neg (show ¬ w.val - 4 - 4 - 150 - 150 < 150 by omega), dif_neg (show ¬ w.val - 4 - 4 - 150 - 150 - 150 < 150 by omega), dif_neg (show ¬ w.val - 4 - 4 - 150 - 150 - 150 - 150 < 1 by omega), dif_neg (show ¬ w.val - 4 - 4 - 150 - 150 - 150 - 150 - 1 < 1 by omega), dif_pos (show w.val - 4 - 4 - 150 - 150 - 150 - 150 - 1 - 1 < 1 by omega)]
    rw [dif_neg c0, dif_neg c1, dif_neg c2, dif_neg c3, dif_neg c4, dif_neg c5, if_neg c6, if_neg c7, if_pos c8]
    exact congrArg (fun q => a8 (ix2 n q)) (Fin.ext (by show w.val - 4 - 4 - 150 - 150 - 150 - 150 - 1 - 1 = 0; omega))
  by_cases c9 : w.val < 612
  · rw [dif_neg (show ¬ w.val < 4 by omega), dif_neg (show ¬ w.val - 4 < 4 by omega), dif_neg (show ¬ w.val - 4 - 4 < 150 by omega), dif_neg (show ¬ w.val - 4 - 4 - 150 < 150 by omega), dif_neg (show ¬ w.val - 4 - 4 - 150 - 150 < 150 by omega), dif_neg (show ¬ w.val - 4 - 4 - 150 - 150 - 150 < 150 by omega), dif_neg (show ¬ w.val - 4 - 4 - 150 - 150 - 150 - 150 < 1 by omega), dif_neg (show ¬ w.val - 4 - 4 - 150 - 150 - 150 - 150 - 1 < 1 by omega), dif_neg (show ¬ w.val - 4 - 4 - 150 - 150 - 150 - 150 - 1 - 1 < 1 by omega), dif_pos (show w.val - 4 - 4 - 150 - 150 - 150 - 150 - 1 - 1 - 1 < 1 by omega)]
    rw [dif_neg c0, dif_neg c1, dif_neg c2, dif_neg c3, dif_neg c4, dif_neg c5, if_neg c6, if_neg c7, if_neg c8, if_pos c9]
    exact congrArg (fun q => a9 (ix2 n q)) (Fin.ext (by show w.val - 4 - 4 - 150 - 150 - 150 - 150 - 1 - 1 - 1 = 0; omega))
  by_cases c10 : w.val < 613
  · rw [dif_neg (show ¬ w.val < 4 by omega), dif_neg (show ¬ w.val - 4 < 4 by omega), dif_neg (show ¬ w.val - 4 - 4 < 150 by omega), dif_neg (show ¬ w.val - 4 - 4 - 150 < 150 by omega), dif_neg (show ¬ w.val - 4 - 4 - 150 - 150 < 150 by omega), dif_neg (show ¬ w.val - 4 - 4 - 150 - 150 - 150 < 150 by omega), dif_neg (show ¬ w.val - 4 - 4 - 150 - 150 - 150 - 150 < 1 by omega), dif_neg (show ¬ w.val - 4 - 4 - 150 - 150 - 150 - 150 - 1 < 1 by omega), dif_neg (show ¬ w.val - 4 - 4 - 150 - 150 - 150 - 150 - 1 - 1 < 1 by omega), dif_neg (show ¬ w.val - 4 - 4 - 150 - 150 - 150 - 150 - 1 - 1 - 1 < 1 by omega), dif_pos (show w.val - 4 - 4 - 150 - 150 - 150 - 150 - 1 - 1 - 1 - 1 < 1 by omega)]
    rw [dif_neg c0, dif_neg c1, dif_neg c2, dif_neg c3, dif_neg c4, dif_neg c5, if_neg c6, if_neg c7, if_neg c8, if_neg c9, if_pos c10]
    exact congrArg (fun q => a10 (ix2 n q)) (Fin.ext (by show w.val - 4 - 4 - 150 - 150 - 150 - 150 - 1 - 1 - 1 - 1 = 0; omega))
  rw [dif_neg (show ¬ w.val < 4 by omega), dif_neg (show ¬ w.val - 4 < 4 by omega), dif_neg (show ¬ w.val - 4 - 4 < 150 by omega), dif_neg (show ¬ w.val - 4 - 4 - 150 < 150 by omega), dif_neg (show ¬ w.val - 4 - 4 - 150 - 150 < 150 by omega), dif_neg (show ¬ w.val - 4 - 4 - 150 - 150 - 150 < 150 by omega), dif_neg (show ¬ w.val - 4 - 4 - 150 - 150 - 150 - 150 < 1 by omega), dif_neg (show ¬ w.val - 4 - 4 - 150 - 150 - 150 - 150 - 1 < 1 by omega), dif_neg (show ¬ w.val - 4 - 4 - 150 - 150 - 150 - 150 - 1 - 1 < 1 by omega), dif_neg (show ¬ w.val - 4 - 4 - 150 - 150 - 150 - 150 - 1 - 1 - 1 < 1 by omega), dif_neg (show ¬ w.val - 4 - 4 - 150 - 150 - 150 - 150 - 1 - 1 - 1 - 1 < 1 by omega)]
  rw [dif_neg c0, dif_neg c1, dif_neg c2, dif_neg c3, dif_neg c4, dif_neg c5, if_neg c6, if_neg c7, if_neg c8, if_neg c9, if_neg c10]
  exact congrArg (fun q => a11 (ix2 n q)) (Fin.ext (by show w.val - 4 - 4 - 150 - 150 - 150 - 150 - 1 - 1 - 1 - 1 - 1 = 0; omega))

/-- A row of the first feature array is its twelve pieces. -/
theorem featX_at (xa : Vec Ideal S4x150x150 .f32) (xb : Vec Ideal S4x150x4 .f32) (b : Fin 4) (n : Fin 150) (w : Fin 614) :
    featX xa xb (ix3 b n w) = beside (k0_pay1 (slabB xb b)) k0_pay7 (k0_pay2 (slabA xa b)) k0_pay8 (k0_pay3 (slabA xa b)) k0_pay8
      (k0_pay5 (slabA xa b)) k0_pay9 (k0_pay6 (slabA xa b)) k0_pay9 (k0_pay4 (slabA xa b)) k0_pay9 (ix2 n w) := by
  show k0_pay10 (slabA xa b) (slabB xb b) (ix3 0 n w) = _
  unfold k0_pay10
  show shapeCast S1x150x614 (beside (k0_pay1 (slabB xb b)) k0_pay7 (k0_pay2 (slabA xa b)) k0_pay8 (k0_pay3 (slabA xa b)) k0_pay8
      (k0_pay5 (slabA xa b)) k0_pay9 (k0_pay6 (slabA xa b)) k0_pay9 (k0_pay4 (slabA xa b)) k0_pay9) shapeCasts_S150x614_S1x150x614 (ix3 0 n w) = _
  generalize beside (k0_pay1 (slabB xb b)) k0_pay7 (k0_pay2 (slabA xa b)) k0_pay8 (k0_pay3 (slabA xa b)) k0_pay8
      (k0_pay5 (slabA xa b)) k0_pay9 (k0_pay6 (slabA xa b)) k0_pay9 (k0_pay4 (slabA xa b)) k0_pay9 = B
  pointwise

/-- A row of the second feature array is its twelve pieces. -/
theorem featY_at (xa : Vec Ideal S4x150x150 .f32) (xb : Vec Ideal S4x150x4 .f32) (b : Fin 4) (n : Fin 150) (w : Fin 614) :
    featY xa xb (ix3 b n w) = beside k0_pay7 (k0_pay1 (slabB xb b)) k0_pay8 (k0_pay2 (slabA xa b)) k0_pay8 (k0_pay3 (slabA xa b))
      k0_pay9 (k0_pay5 (slabA xa b)) k0_pay9 (k0_pay6 (slabA xa b)) k0_pay9 (k0_pay4 (slabA xa b)) (ix2 n w) := by
  show k0_pay11 (slabA xa b) (slabB xb b) (ix3 0 n w) = _
  unfold k0_pay11
  show shapeCast S1x150x614 (beside k0_pay7 (k0_pay1 (slabB xb b)) k0_pay8 (k0_pay2 (slabA xa b)) k0_pay8 (k0_pay3 (slabA xa b))
      k0_pay9 (k0_pay5 (slabA xa b)) k0_pay9 (k0_pay6 (slabA xa b)) k0_pay9 (k0_pay4 (slabA xa b))) shapeCasts_S150x614_S1x150x614 (ix3 0 n w) = _
  generalize beside k0_pay7 (k0_pay1 (slabB xb b)) k0_pay8 (k0_pay2 (slabA xa b)) k0_pay8 (k0_pay3 (slabA xa b))
      k0_pay9 (k0_pay5 (slabA xa b)) k0_pay9 (k0_pay6 (slabA xa b)) k0_pay9 (k0_pay4 (slabA xa b)) = B
  pointwise

/-- The filler pieces are zero. -/
theorem zero4 (n : Fin 150) (q : Fin 4) : k0_pay7 (F := Ideal) (ix2 n q) = 0 := by
  pointwise [k0_pay7]
/-- The filler pieces are zero. -/
theorem zero150 (n : Fin 150) (q : Fin 150) : k0_pay8 (F := Ideal) (ix2 n q) = 0 := by
  pointwise [k0_pay8]
/-- The filler pieces are zero. -/
theorem zero1 (n : Fin 150) (q : Fin 1) : k0_pay9 (F := Ideal) (ix2 n q) = 0 := by
  pointwise [k0_pay9]

end Cert.Proof.Ki

end
-- ==== Proof.Ri.Table.lean ====
/-
  The reference's two index tables: entry `p` of the first is `p / 149`, and of the second `p % 149`, one more from the
  diagonal on.
-/
module

public import proofs.«01_k».proof.ReferenceIdeal

@[expose] public section

set_option maxRecDepth 16384

noncomputable section

namespace Cert.Proof.Ri

open Cert.ReferenceIdeal

/-- The first entity of pair `149 x + r` is `x`. -/
theorem first_row : ∀ x < 150, ∀ r < 149, lit0t (149 * x + r) = BitVec.ofNat 32 x := by decide +kernel

/-- The second entity of pair `149 x + r` is `r` below `x` and `r + 1` from `x` on. -/
theorem second_row : ∀ x < 150, ∀ r < 149, lit1t (149 * x + r) = BitVec.ofNat 32 (if r < x then r else r + 1) := by
  decide +kernel

/-- The first table at any entry. -/
theorem first_at (p : Fin 22350) : lit0 p = BitVec.ofNat 32 (p.val / 149) := by
  have h := first_row (p.val / 149) (by omega) (p.val % 149) (by omega)
  rw [show 149 * (p.val / 149) + p.val % 149 = p.val from by omega] at h
  exact h

/-- The second table at any entry. -/
theorem second_at (p : Fin 22350) :
    lit1 p = BitVec.ofNat 32 (if p.val % 149 < p.val / 149 then p.val % 149 else p.val % 149 + 1) := by
  have h := second_row (p.val / 149) (by omega) (p.val % 149) (by omega)
  rw [show 149 * (p.val / 149) + p.val % 149 = p.val from by omega] at h
  exact h

end Cert.Proof.Ri

end
-- ==== Proof.Ri.Take.lean ====
/-
  The reference's `jnp.take` along the entities: where the index word is an entity's number, the row taken is that entity's.
-/
module

public import proofs.«01_k».proof.Proof.Gen.ReferenceIdeal.Run
public import proofs.«01_k».proof.Proof.Ri.Table
public import Idealize.ShloMosaic.Lib.Pointwise
public import Idealize.ShloMosaic.Lib.Tactic
public import Idealize.ShloMosaic.Lib.Tactic.CleanTypes
public import Idealize.ShloMosaic.Lib.Tactic.WordOmega
public import Idealize.ShloMosaic.Lib.WordCmp

@[expose] public section

set_option maxRecDepth 16384

noncomputable section

namespace Cert.Proof.Ri

open Cert.ReferenceIdeal Cert.ReferenceIdeal.Gen Cert.ReferenceIdeal.Value
open Idealize.ShloMosaic Idealize.ShloMosaic.TcCoe

/-- A signed word below 150 is the number it holds. -/
theorem word_small (n : Fin 150) : (BitVec.ofNat 32 n.val).toInt = n.val := by
  revert n; decide

/-- A gather of rows of a table [4, 150, D] by one index word per pair. -/
theorem gather_rows {α : Type} (D : ℕ)
    (wf : GatherDims.WF ⟨3, ![4, 150, D]⟩ ⟨2, ![22350, 1]⟩ ⟨3, ![4, 22350, D]⟩ [0, 2] [1] [] [1] [] 1 ![4, 1, D])
    (x : (⟨3, ![4, 150, D]⟩ : Shape).Idx → α) (idx : IVec ⟨2, ![22350, 1]⟩ 32) (b : Fin 4) (p : Fin 22350) (q : Fin D)
    (n : Fin 150) (h : idx (ix2 p (0 : Fin 1)) = BitVec.ofNat 32 n.val) :
    Host.gather (⟨[0, 2], [1], [], [], [1], 1, ![4, 1, D], wf⟩ : GatherDims ⟨3, ![4, 150, D]⟩ ⟨2, ![22350, 1]⟩ ⟨3, ![4, 22350, D]⟩)
      x idx (ix3 b p q) = x (ix3 b n q) := by
  unfold Host.gather
  refine congrArg x (funext fun a => Fin.ext ?_)
  match a with
  | ⟨0, _⟩ => exact (Nat.zero_add _)
  | ⟨1, _⟩ =>
    have hs : (⟨[0, 2], [1], [], [], [1], 1, ![4, 1, D], wf⟩ : GatherDims ⟨3, ![4, 150, D]⟩ ⟨2, ![22350, 1]⟩ ⟨3, ![4, 22350, D]⟩).siIdx
        (ix3 b p q) ⟨0, Nat.zero_lt_one⟩ = ix2 p (0 : Fin 1) := by
      funext a; match a with
      | ⟨0, _⟩ => rfl
      | ⟨1, _⟩ => rfl
    show min (idx ((⟨[0, 2], [1], [], [], [1], 1, ![4, 1, D], wf⟩ : GatherDims ⟨3, ![4, 150, D]⟩ ⟨2, ![22350, 1]⟩ ⟨3, ![4, 22350, D]⟩).siIdx
        (ix3 b p q) ⟨0, Nat.zero_lt_one⟩)).toInt.toNat (150 - 1) + 0 + 0 = n.val
    rw [hs, h, word_small]
    have := n.isLt
    omega
  | ⟨2, _⟩ => exact (Nat.zero_add _)

/-- The index words of a take: a negative one is counted from the end. -/
abbrev wrap (T : IVec S22350 32) : IVec S22350x1 32 :=
  broadcastInDim S22350x1 ![0] bcast_S22350_S22350x1_0 (select (cmpi .slt T (broadcastInDim S22350 ![] bcast_S_S22350 (constantI S_ 32 0#32)))
    (addi T (broadcastInDim S22350 ![] bcast_S_S22350 (constantI S_ 32 150#32))) T)

/-- An entity's number is not negative, so it stays. -/
theorem wrap_at (T : IVec S22350 32) (p : Fin 22350) (n : Fin 150) (h : T (ix1 p) = BitVec.ofNat 32 n.val) :
    wrap T (ix2 p 0) = BitVec.ofNat 32 n.val := by
  unfold wrap
  pointwise
  rw [h]
  clear h
  revert n; decide

/-- The mask of the pairs whose index word is in range. -/
abbrev inRange (I : IVec S22350x1 32) : IVec S22350 1 :=
  Host.reduce IntOp.andi (andi (cmpi .sge I (broadcastInDim S22350x1 ![] bcast_S_S22350x1 (constantI S_ 32 0#32)))
    (cmpi .sle I (broadcastInDim S22350x1 ![0, 1] bcast_S1x1_S22350x1_0_1 (broadcastInDim S1x1 ![1] bcast_S1_S1x1_1 (constantI S1 32 149#32)))))
    (constantI S_ 1 1#1) reducesTo_S22350x1_S22350_d1 h_S_

/-- An entity's number is in range. -/
theorem inRange_at (I : IVec S22350x1 32) (p : Fin 22350) (n : Fin 150) (h : I (ix2 p 0) = BitVec.ofNat 32 n.val) :
    inRange I (ix1 p) = 1#1 := by
  unfold inRange
  pointwise
  rw [Finset.univ_unique, Finset.fold_singleton]
  show IntOp.andi (IntOp.andi (IntOp.cmpi CmpIPredicate.sge (I (ix2 p 0)) 0#32) (IntOp.cmpi CmpIPredicate.sle (I (ix2 p 0)) 149#32)) (1#1) = 1#1
  rw [h]
  clear h
  revert n; decide

/-- A rank-1 index is its own number in row-major order. -/
theorem flat_one (p : Fin 22350) : (S22350.rowMajor (ix1 p) : Fin 22350) = p := Fin.ext (Shape.rowMajor_val_one _)

/-- The index words of the pairs' first entities. -/
theorem wrap_first (V0 : Valuation τ sig (Elt Ideal)) (p : Fin 22350) (n : Fin 150) (hn : n.val = p.val / 149) :
    wrap (res_main_c V0) (ix2 p 0) = BitVec.ofNat 32 n.val := by
  refine wrap_at _ p n ?_
  rw [hn]
  exact (congrArg lit0 (flat_one p)).trans (first_at p)

/-- The index words of the pairs' second entities. -/
theorem wrap_second (V0 : Valuation τ sig (Elt Ideal)) (p : Fin 22350) (n : Fin 150)
    (hn : n.val = if p.val % 149 < p.val / 149 then p.val % 149 else p.val % 149 + 1) :
    wrap (res_main_c_0 V0) (ix2 p 0) = BitVec.ofNat 32 n.val := by
  refine wrap_at _ p n ?_
  rw [hn]
  exact (congrArg lit1 (flat_one p)).trans (second_at p)

/-- A take from a table of 4 columns. -/
abbrev take4 (I : IVec S22350x1 32) (t : FVec Ideal S4x150x4 .f32) : FVec Ideal S4x22350x4 .f32 :=
  select (broadcastInDim S4x22350x4 ![1] bcast_S22350_S4x22350x4_1 (inRange I))
    (Host.gather gather_S4x150x4_S22350x1_S4x22350x4_02_1_n_n_1_1_414 t I)
    (broadcastInDim S4x22350x4 ![] bcast_S_S4x22350x4 (constant S_ .f32 0x7FC00000#32))

/-- A take from a table of 4 columns at an entity's number is that entity's row. -/
theorem take4_at (I : IVec S22350x1 32) (t : FVec Ideal S4x150x4 .f32) (b : Fin 4) (p : Fin 22350) (q : Fin 4)
    (n : Fin 150) (h : I (ix2 p 0) = BitVec.ofNat 32 n.val) : take4 I t (ix3 b p q) = t (ix3 b n q) := by
  have hm : broadcastInDim S4x22350x4 ![1] bcast_S22350_S4x22350x4_1 (inRange I) (ix3 b p q) = 1#1 := by
    rw [← inRange_at I p n h]
    generalize inRange I = M
    pointwise
  have hg : Host.gather gather_S4x150x4_S22350x1_S4x22350x4_02_1_n_n_1_1_414 t I (ix3 b p q) = t (ix3 b n q) :=
    gather_rows 4 _ t I b p q n h
  show Scalar.select (broadcastInDim S4x22350x4 ![1] bcast_S22350_S4x22350x4_1 (inRange I) (ix3 b p q))
    (Host.gather gather_S4x150x4_S22350x1_S4x22350x4_02_1_n_n_1_1_414 t I (ix3 b p q)) _ = _
  rw [hm, hg]
  rfl

/-- A take from a table of 150 columns. -/
abbrev take150 (I : IVec S22350x1 32) (t : FVec Ideal S4x150x150 .f32) : FVec Ideal S4x22350x150 .f32 :=
  select (broadcastInDim S4x22350x150 ![1] bcast_S22350_S4x22350x150_1 (inRange I))
    (Host.gather gather_S4x150x150_S22350x1_S4x22350x150_02_1_n_n_1_1_41150 t I)
    (broadcastInDim S4x22350x150 ![] bcast_S_S4x22350x150 (constant S_ .f32 0x7FC00000#32))

/-- A take from a table of 150 columns at an entity's number is that entity's row. -/
theorem take150_at (I : IVec S22350x1 32) (t : FVec Ideal S4x150x150 .f32) (b : Fin 4) (p : Fin 22350) (q : Fin 150)
    (n : Fin 150) (h : I (ix2 p 0) = BitVec.ofNat 32 n.val) : take150 I t (ix3 b p q) = t (ix3 b n q) := by
  have hm : broadcastInDim S4x22350x150 ![1] bcast_S22350_S4x22350x150_1 (inRange I) (ix3 b p q) = 1#1 := by
    rw [← inRange_at I p n h]
    generalize inRange I = M
    pointwise
  have hg : Host.gather gather_S4x150x150_S22350x1_S4x22350x150_02_1_n_n_1_1_41150 t I (ix3 b p q) = t (ix3 b n q) :=
    gather_rows 150 _ t I b p q n h
  show Scalar.select (broadcastInDim S4x22350x150 ![1] bcast_S22350_S4x22350x150_1 (inRange I) (ix3 b p q))
    (Host.gather gather_S4x150x150_S22350x1_S4x22350x150_02_1_n_n_1_1_41150 t I (ix3 b p q)) _ = _
  rw [hm, hg]
  rfl

/-- A take from a table of 1 columns. -/
abbrev take1 (I : IVec S22350x1 32) (t : FVec Ideal S4x150x1 .f32) : FVec Ideal S4x22350x1 .f32 :=
  select (broadcastInDim S4x22350x1 ![1] bcast_S22350_S4x22350x1_1 (inRange I))
    (Host.gather gather_S4x150x1_S22350x1_S4x22350x1_02_1_n_n_1_1_411 t I)
    (broadcastInDim S4x22350x1 ![] bcast_S_S4x22350x1 (constant S_ .f32 0x7FC00000#32))

/-- A take from a table of 1 columns at an entity's number is that entity's row. -/
theorem take1_at (I : IVec S22350x1 32) (t : FVec Ideal S4x150x1 .f32) (b : Fin 4) (p : Fin 22350) (q : Fin 1)
    (n : Fin 150) (h : I (ix2 p 0) = BitVec.ofNat 32 n.val) : take1 I t (ix3 b p q) = t (ix3 b n q) := by
  have hm : broadcastInDim S4x22350x1 ![1] bcast_S22350_S4x22350x1_1 (inRange I) (ix3 b p q) = 1#1 := by
    rw [← inRange_at I p n h]
    generalize inRange I = M
    pointwise
  have hg : Host.gather gather_S4x150x1_S22350x1_S4x22350x1_02_1_n_n_1_1_411 t I (ix3 b p q) = t (ix3 b n q) :=
    gather_rows 1 _ t I b p q n h
  show Scalar.select (broadcastInDim S4x22350x1 ![1] bcast_S22350_S4x22350x1_1 (inRange I) (ix3 b p q))
    (Host.gather gather_S4x150x1_S22350x1_S4x22350x1_02_1_n_n_1_1_411 t I (ix3 b p q)) _ = _
  rw [hm, hg]
  rfl

end Cert.Proof.Ri

end
-- ==== Proof.Features.lean ====
/-
  The features of the kernel are those of the reference.
-/
module

public import proofs.«01_k».proof.Proof.Ki.Ladder
public import proofs.«01_k».proof.Proof.Ri.Take

@[expose] public section

set_option maxRecDepth 16384

noncomputable section

namespace Cert.Proof.Same

open Idealize.ShloMosaic Idealize.ShloMosaic.TcCoe
open Cert.KernelIdeal.Gen Cert.ReferenceIdeal.Value Cert.Proof.Ki

variable (V0 : Valuation Cert.ReferenceIdeal.τ Cert.ReferenceIdeal.sig (Elt Ideal)) (xa : FVec Ideal Cert.ReferenceIdeal.S4x150x150 .f32)
  (xb : FVec Ideal Cert.ReferenceIdeal.S4x150x4 .f32)

/-- The boxes are copied. -/
theorem box (b : Fin 4) (n : Fin 150) (q : Fin 4) : k0_pay1 (slabB xb b) (ix2 n q) = xb (ix3 b n q) := by
  pointwise [k0_pay1, slabB]

/-- The scores are the reference's. -/
theorem score (ha : V0 (Proc.devRef .tc Cert.ReferenceIdeal.main_arg0) = xa) (b : Fin 4) (n q : Fin 150) :
    k0_pay2 (slabA xa b) (ix2 n q) = res_main_v5 V0 (ix3 b n q) := by
  unfold res_main_v5
  rw [ha]
  pointwise [k0_pay2, slabA]
  rfl

/-- The folded scores are the reference's. -/
theorem fold (ha : V0 (Proc.devRef .tc Cert.ReferenceIdeal.main_arg0) = xa) (b : Fin 4) (n q : Fin 150) :
    k0_pay3 (slabA xa b) (ix2 n q) = res_main_v15 V0 (ix3 b n q) := by
  unfold res_main_v15 res_main_v5
  rw [ha]
  pointwise [k0_pay3, k0_pay2, slabA]
  rfl

/-- The highest of each row, over any two arrays with equal rows. -/
theorem top_of (T : FVec Ideal Cert.KernelIdeal.S150x150 .f32) (S : FVec Ideal Cert.ReferenceIdeal.S4x150x150 .f32)
    (b : Fin 4) (n : Fin 150) (h : ∀ q : Fin 150, T (ix2 n q) = S (ix3 b n q)) :
    multiReduction .maximumf [1] Cert.KernelIdeal.S150 T 0xFF800000#32 Cert.KernelIdeal.Gen.reduces_S150x150_S150 (.inl rfl) rfl (ix1 n)
      = Host.reduce FloatOps.maximumf S (constant Cert.ReferenceIdeal.S_ .f32 0xFF800000#32) Cert.ReferenceIdeal.Gen.reducesTo_S4x150x150_S4x150_d2 Cert.ReferenceIdeal.Gen.h_S_ (ix2 b n) := by
  pointwise
  exact congrArg (fun g => Finset.fold max (Ideal.ofBits FTy.f32 4286578688#32) g Finset.univ) (funext h)

/-- The highest scores are the reference's. -/
theorem top (ha : V0 (Proc.devRef .tc Cert.ReferenceIdeal.main_arg0) = xa) (b : Fin 4) (n : Fin 150) :
    k0_pay4 (slabA xa b) (ix2 n 0) = res_main_v6 V0 (ix2 b n) := by
  refine Eq.trans ?_ (top_of (k0_pay2 (slabA xa b)) (res_main_v5 V0) b n (score V0 xa ha b n))
  unfold k0_pay4
  generalize k0_pay2 (slabA xa b) = T
  show shapeCast Cert.KernelIdeal.S150x1 (multiReduction .maximumf [1] Cert.KernelIdeal.S150 T 0xFF800000#32 Cert.KernelIdeal.Gen.reduces_S150x150_S150 (.inl rfl) rfl)
    Cert.KernelIdeal.Gen.shapeCasts_S150_S150x1 (ix2 n 0) = _
  generalize multiReduction .maximumf [1] Cert.KernelIdeal.S150 T 0xFF800000#32 Cert.KernelIdeal.Gen.reduces_S150x150_S150 (.inl rfl) rfl = R
  pointwise

/-- The highest scores, as a column. -/
theorem topCol (ha : V0 (Proc.devRef .tc Cert.ReferenceIdeal.main_arg0) = xa) (b : Fin 4) (n : Fin 150) :
    k0_pay4 (slabA xa b) (ix2 n 0) = res_main_v26 V0 (ix3 b n 0) := by
  rw [top V0 xa ha b n]
  unfold res_main_v26
  generalize (res_main_v6 V0 : FVec Ideal Cert.ReferenceIdeal.S4x150 .f32) = R
  pointwise

/-- The logarithms of the highest scores. -/
theorem logTop (ha : V0 (Proc.devRef .tc Cert.ReferenceIdeal.main_arg0) = xa) (b : Fin 4) (n : Fin 150) :
    k0_pay5 (slabA xa b) (ix2 n 0) = res_main_v19 V0 (ix3 b n 0) := by
  have h := top V0 xa ha b n
  unfold res_main_v19 k0_pay5
  generalize (res_main_v6 V0 : FVec Ideal Cert.ReferenceIdeal.S4x150 .f32) = R at h ⊢
  generalize k0_pay4 (slabA xa b) = T at h ⊢
  pointwise
  rw [h]

/-- The logarithms of the rest. -/
theorem logRest (ha : V0 (Proc.devRef .tc Cert.ReferenceIdeal.main_arg0) = xa) (b : Fin 4) (n : Fin 150) :
    k0_pay6 (slabA xa b) (ix2 n 0) = res_main_v25 V0 (ix3 b n 0) := by
  have h := top V0 xa ha b n
  unfold res_main_v25 k0_pay6
  generalize (res_main_v6 V0 : FVec Ideal Cert.ReferenceIdeal.S4x150 .f32) = R at h ⊢
  generalize k0_pay4 (slabA xa b) = T at h ⊢
  pointwise
  rw [h]

end Cert.Proof.Same

end
-- ==== Proof.Ki.Rows.lean ====
/-
  The block of pair rows at a place, and the third body's output buffer at a place.
-/
module

public import proofs.«01_k».proof.Proof.Ki.Vals
public import Idealize.ShloMosaic.Lib.Pointwise
public import Idealize.ShloMosaic.Lib.Tactic.WordOmega
public import Idealize.ShloMosaic.Lib.WordCmp

@[expose] public section

set_option maxRecDepth 16384

noncomputable section

namespace Cert.Proof.Ki

open Cert.KernelIdeal Cert.KernelIdeal.Gen
open Idealize.ShloMosaic Idealize.ShloMosaic.TcCoe

/-- The comparison of a row number with a first index, as a bit. -/
theorem row_lt (r x : ℕ) (hr : r < 150) (hx : x < 150) :
    IntOp.cmpi .slt (BitVec.ofNat 32 r) (BitVec.ofNat 32 x) = if r < x then 1#1 else 0#1 := by
  have h : ∀ (r x : Fin 150), IntOp.cmpi .slt (BitVec.ofNat 32 r.val) (BitVec.ofNat 32 x.val) = if r.val < x.val then 1#1 else 0#1 := by
    decide +kernel
  exact h ⟨r, hr⟩ ⟨x, hx⟩

/-- The pair rows at a place. -/
theorem pairRows_at (x : ℕ) (hx : x < 150) (lo hi : Vec Ideal S1x149x614 .f32) (row : Vec Ideal S1x1x614 .f32) (r : Fin 149) (w : Fin 614) :
    pairRows (BitVec.ofNat 32 x) lo hi row (ix2 r w)
      = (if r.val < x then lo (ix3 0 r w) else hi (ix3 0 r w)) + row (ix3 0 0 w) := by
  have hr : r.val < 150 := by have := r.isLt; omega
  unfold pairRows
  pointwise
  rw [row_lt r.val x hr hx]
  split_ifs <;> rfl

/-- A load of one row of a block of features is that row. -/
theorem row_ld (x0 : Vec Ideal S1x150x614 .f32) (n : ℕ) (inb : ∀ a, (![0, n, 0] : Fin 3 → ℕ) a + S1x1x614.size a ≤ S1x150x614.size a)
    (x : Fin 150) (hx : x.val = n) (w : Fin 614) :
    View.ld x0 (Rect.unit (s := S1x150x614) ![0, n, 0] S1x1x614.size inb) (ix3 0 0 w) = x0 (ix3 0 x w) := by
  refine View.ld_unit_apply_of x0 _ _ _ _ (ix3 0 x w) fun a => ?_
  match a with
  | ⟨0, _⟩ => rfl
  | ⟨1, _⟩ => exact hx
  | ⟨2, _⟩ => exact (Nat.zero_add _).symm

/-- A stored block of the third body at a place. -/
theorem blk2_at (n : ℕ) (inb : ∀ a, (![0, n, 0] : Fin 3 → ℕ) a + S1x1x614.size a ≤ S1x150x614.size a) (x0 x1 : Vec Ideal S1x150x614 .f32)
    (x : Fin 150) (hx : x.val = n) (z : S1x149x614.Idx) (r : Fin 149) (w : Fin 614) (h1 : (z 1).val = r.val) (h2 : (z 2).val = w.val) :
    blk2 (BitVec.ofNat 32 n) x1 (View.ld x0 (Rect.unit (s := S1x150x614) ![0, n, 0] S1x1x614.size inb)) z
      = (if r.val < x.val then x1 (ix3 0 ⟨r.val, by have := r.isLt; omega⟩ w)
      else x1 (ix3 0 ⟨r.val + 1, by have := r.isLt; omega⟩ w)) + x0 (ix3 0 x w) := by
  have hz : z = ix3 0 r w := by
    funext a
    match a with
    | ⟨0, _⟩ => exact Fin.ext (by show (z 0).val = 0; have : (z 0).val < 1 := (z 0).isLt; omega)
    | ⟨1, _⟩ => exact Fin.ext h1
    | ⟨2, _⟩ => exact Fin.ext h2
  have hlo : View.ld x1 r2lo (ix3 0 r w) = x1 (ix3 0 ⟨r.val, by have := r.isLt; omega⟩ w) := by
    refine View.ld_unit_apply_of x1 _ _ _ _ _ fun a => ?_
    match a with
    | ⟨0, _⟩ => rfl
    | ⟨1, _⟩ => exact (Nat.zero_add _).symm
    | ⟨2, _⟩ => exact (Nat.zero_add _).symm
  have hhi : View.ld x1 r2hi (ix3 0 r w) = x1 (ix3 0 ⟨r.val + 1, by have := r.isLt; omega⟩ w) := by
    refine View.ld_unit_apply_of x1 _ _ _ _ _ fun a => ?_
    match a with
    | ⟨0, _⟩ => rfl
    | ⟨1, _⟩ => exact Nat.add_comm _ _
    | ⟨2, _⟩ => exact (Nat.zero_add _).symm
  rw [← hlo, ← hhi, ← row_ld x0 n inb x hx w, hx, ← pairRows_at n (by have := x.isLt; omega)]
  subst hz
  unfold blk2
  generalize pairRows (F := Ideal) (BitVec.ofNat 32 n) _ _ _ = P
  pointwise

/-- What the third body leaves in its output buffer, at a place of the eight blocks. -/
theorem out2_at (x0 x1 : Vec Ideal S1x150x614 .f32) (rr : Fin 1192) (w : Fin 614) (k : ℕ) (x : Fin 150) (r : Fin 149)
    (hrr : rr.val = 149 * k + r.val) (hx : x.val = min (144 + k) 149) :
    out2 x0 x1 (ix3 0 rr w) = (if r.val < x.val then x1 (ix3 0 ⟨r.val, by have := r.isLt; omega⟩ w)
      else x1 (ix3 0 ⟨r.val + 1, by have := r.isLt; omega⟩ w)) + x0 (ix3 0 x w) := by
  unfold out2
  canon_tiles z h
  all_goals
    have e1 : ((ix3 (0 : Fin 1) rr w : S1x1192x614.Idx) 1).val = rr.val := rfl
    have e2 : ((ix3 (0 : Fin 1) rr w : S1x1192x614.Idx) 2).val = w.val := rfl
    have hr := r.isLt
    exact blk2_at _ _ x0 x1 x (by omega) z r w (by omega) (by omega)

end Cert.Proof.Ki

end
-- ==== Proof.Ki.Rows1.lean ====
/-
  The second body's slots at a place, and the chunks at a place.
-/
module

public import proofs.«01_k».proof.Proof.Ki.Rows

@[expose] public section

set_option maxRecDepth 16384

noncomputable section

namespace Cert.Proof.Ki

open Cert.KernelIdeal Cert.KernelIdeal.Gen
open Idealize.ShloMosaic Idealize.ShloMosaic.TcCoe

/-- Where slot `r` reads the second factor's rows `r`: batch of chunk `4 t + r`. -/
theorem off2_eq : ∀ (t : Fin cfg1.N) (r : Fin 4), k1_off2 (grid1.coords t) (BitVec.ofNat 32 r.val)
    = ![(4 * t.val + r.val) / 18, 0, 0] := by decide +kernel
/-- Where slot `r` reads the second factor's rows `r + 1`: batch of chunk `4 t + r`, one row down. -/
theorem off3_eq : ∀ (t : Fin cfg1.N) (r : Fin 4), k1_off3 (grid1.coords t) (BitVec.ofNat 32 r.val)
    = ![(4 * t.val + r.val) / 18, 1, 0] := by decide +kernel
/-- Where slot `r` reads the first factor's row of its `j`-th block. -/
theorem off4_eq : ∀ (t : Fin cfg1.N) (r : Fin 4) (j : Fin 8), k1_off4 (grid1.coords t) (BitVec.ofNat 32 r.val) (BitVec.ofNat 32 j.val)
    = ![(4 * t.val + r.val) / 18, 8 * ((4 * t.val + r.val) % 18) + j.val, 0] := by decide +kernel
/-- The first index of slot `r`'s `j`-th block, as a word. -/
theorem firstW_eq : ∀ (t : Fin cfg1.N) (r : Fin 4) (j : Fin 8), firstW (grid1.coords t) (BitVec.ofNat 32 r.val) (BitVec.ofNat 32 j.val)
    = BitVec.ofNat 32 (8 * ((4 * t.val + r.val) % 18) + j.val) := by decide +kernel

/-- A load of a batch's rows from `n` on is those rows. -/
theorem rows_ld {N : ℕ} (X : Vec Ideal S4x150x614 .f32) (off : Fin 3 → ℕ) (inb : ∀ a, off a + (![1, N, 614] : Fin 3 → ℕ) a ≤ S4x150x614.size a)
    (b : Fin 4) (n : ℕ) (hoff : off = ![b.val, n, 0]) (s : Fin N) (x : Fin 150) (hx : x.val = n + s.val) (w : Fin 614) :
    View.ld X (Rect.unit (s := S4x150x614) off (![1, N, 614] : Fin 3 → ℕ) inb) (ix3 (0 : Fin 1) s w) = X (ix3 b x w) := by
  subst hoff
  refine View.ld_unit_apply_of X _ _ _ _ (ix3 b x w) fun a => ?_
  match a with
  | ⟨0, _⟩ => rfl
  | ⟨1, _⟩ => exact hx
  | ⟨2, _⟩ => exact (Nat.zero_add _).symm

/-- A stored block of the second body at a place. -/
theorem blk1_at (t : Fin cfg1.N) (q : Fin 4) (j : Fin 8) (x0 x1 : Vec Ideal S4x150x614 .f32) (b : Fin 4) (hb : b.val = (4 * t.val + q.val) / 18)
    (x : Fin 150) (hx : x.val = 8 * ((4 * t.val + q.val) % 18) + j.val) (z : S149x614.Idx) (r : Fin 149) (w : Fin 614)
    (h1 : (z 0).val = r.val) (h2 : (z 1).val = w.val) :
    blk1 (grid1.coords t) q j x0 x1 z = (if r.val < x.val then x1 (ix3 b ⟨r.val, by have := r.isLt; omega⟩ w)
      else x1 (ix3 b ⟨r.val + 1, by have := r.isLt; omega⟩ w)) + x0 (ix3 b x w) := by
  have hz : z = ix2 r w := by
    funext a
    match a with
    | ⟨0, _⟩ => exact Fin.ext h1
    | ⟨1, _⟩ => exact Fin.ext h2
  have hlo : View.ld x1 (r1lo (grid1.coords t) q) (ix3 (0 : Fin 1) r w) = x1 (ix3 b ⟨r.val, by have := r.isLt; omega⟩ w) :=
    rows_ld x1 _ _ b 0 (by rw [off2_eq, hb]) r _ (Nat.zero_add _).symm w
  have hhi : View.ld x1 (r1hi (grid1.coords t) q) (ix3 (0 : Fin 1) r w) = x1 (ix3 b ⟨r.val + 1, by have := r.isLt; omega⟩ w) :=
    rows_ld x1 _ _ b 1 (by rw [off3_eq, hb]) r _ (Nat.add_comm _ _) w
  have hrow : View.ld x0 (r1row (grid1.coords t) q j) (ix3 (0 : Fin 1) (0 : Fin 1) w) = x0 (ix3 b x w) :=
    rows_ld x0 _ _ b x.val (by rw [off4_eq, hb, hx]) 0 x rfl w
  rw [← hlo, ← hhi, ← hrow, ← pairRows_at x.val x.isLt, hx, ← firstW_eq]
  subst hz
  unfold blk1
  generalize pairRows (F := Ideal) (firstW (grid1.coords t) (BitVec.ofNat 32 q.val) (BitVec.ofNat 32 j.val)) _ _ _ = P
  pointwise

/-- What a slot holds once filled, at a place. -/
theorem out1_at (t : Fin cfg1.N) (q : Fin 4) (x0 x1 : Vec Ideal S4x150x614 .f32) (b : Fin 4) (hb : b.val = (4 * t.val + q.val) / 18)
    (j : ℕ) (x : Fin 150) (hx : x.val = 8 * ((4 * t.val + q.val) % 18) + j) (rr : Fin 1192) (r : Fin 149) (w : Fin 614)
    (hrr : rr.val = 149 * j + r.val) :
    out1 (grid1.coords t) q x0 x1 (ix2 rr w) = (if r.val < x.val then x1 (ix3 b ⟨r.val, by have := r.isLt; omega⟩ w)
      else x1 (ix3 b ⟨r.val + 1, by have := r.isLt; omega⟩ w)) + x0 (ix3 b x w) := by
  unfold out1
  canon_tiles z h
  all_goals
    have e0 : ((ix2 rr w : S1192x614.Idx) 0).val = rr.val := rfl
    have e1 : ((ix2 rr w : S1192x614.Idx) 1).val = w.val := rfl
    have hr := r.isLt
    refine blk1_at t q _ x0 x1 b hb x ?_ z r w (by omega) (by omega)
    rw [hx]
    congr 1
    simp
    omega

/-- The pair rows of whole arrays: batch `b`, pair `p`, column `w`. -/
def pairAt (x0 x1 : Vec Ideal S4x150x614 .f32) (b : Fin 4) (p : Fin 22350) (w : Fin 614) : EReal :=
  (if p.val % 149 < p.val / 149 then x1 (ix3 b ⟨p.val % 149, by omega⟩ w)
    else x1 (ix3 b ⟨p.val % 149 + 1, by omega⟩ w)) + x0 (ix3 b ⟨p.val / 149, by have := p.isLt; omega⟩ w)

/-- The chunks, at a place they cover, are the pair rows. -/
theorem chunks_at (x0 x1 : Vec Ideal S4x150x614 .f32) (f₀ : Vec Ideal S4x22350x614 .f32) (b : Fin 4) (p : Fin 22350) (w : Fin 614)
    (hp : p.val < 21456) : chunks x0 x1 f₀ (ix3 b p w) = pairAt x0 x1 b p w := by
  have hb := b.isLt
  have e0 : ((ix3 b p w : S4x22350x614.Idx) 0).val = b.val := rfl
  have e1 : ((ix3 b p w : S4x22350x614.Idx) 1).val = p.val := rfl
  have hn : num (ix3 b p w) = b.val * 18 + p.val / 1192 := by
    unfold num; rw [e0, e1, if_pos hp]
  obtain ⟨t, ht⟩ : ∃ t : Fin cfg1.N, t.val = (b.val * 18 + p.val / 1192) / 4 := ⟨⟨_, by show _ < 18; omega⟩, rfl⟩
  obtain ⟨q, hq⟩ : ∃ q : Fin 4, q.val = (b.val * 18 + p.val / 1192) % 4 := ⟨⟨_, by omega⟩, rfl⟩
  have hc : 4 * t.val + q.val = b.val * 18 + p.val / 1192 := by omega
  unfold chunks
  rw [place_at _ f₀ t q (ix2 ⟨p.val % 1192, Nat.mod_lt _ (by decide)⟩ w) (ix3 b p w) (by rw [hn, hc])
    (by rw [hc]; show p.val = 1192 * ((b.val * 18 + p.val / 1192) % 18) + p.val % 1192; omega) rfl]
  exact out1_at t q x0 x1 b (by rw [hc]; omega) (p.val % 1192 / 149) ⟨p.val / 149, by omega⟩
    (by rw [hc]; show p.val / 149 = _; omega) _ ⟨p.val % 149, by omega⟩ w (by show p.val % 1192 = 149 * (p.val % 1192 / 149) + p.val % 149; omega)

end Cert.Proof.Ki

end
-- ==== Proof.Ki.Copy.lean ====
/-
  What the copy between the second and the third call leaves.
-/
module

public import proofs.«01_k».proof.Proof.Ki.Rows1

@[expose] public section

set_option maxRecDepth 16384

noncomputable section

namespace Cert.Proof.Ki

open Cert.KernelIdeal Cert.KernelIdeal.Gen
open Idealize.ShloMosaic Idealize.ShloMosaic.TcCoe
open Idealize.ShloMosaic.Pipeline (Dat Cfg Window BodyObligation)

variable (m : (ℓ : Loc nD τ sig) → Buf (Elt Ideal) ℓ)

/-- The copy hands the chunks on to the result's buffer, from any contents. -/
theorem copy_res (W : Valuation τ sig (Elt Ideal)) : (StableHlo.after hostOps2 W main_v2 : Vec Ideal S4x22350x614 .f32) = W main_v1 := by
  after_results
  rfl
/-- The copy leaves the first feature array, from any contents. -/
theorem copy_fx (W : Valuation τ sig (Elt Ideal)) : StableHlo.after hostOps2 W main_v0_0 = W main_v0_0 := by
  after_results
/-- The copy leaves the second feature array, from any contents. -/
theorem copy_fy (W : Valuation τ sig (Elt Ideal)) : StableHlo.after hostOps2 W main_v0_1 = W main_v0_1 := by
  after_results

/-- The result's buffer before the third call: the chunks. -/
theorem U3_res (c : Dev nD) : (U3 m c main_v2 : Vec Ideal S4x22350x614 .f32) = U2 m c main_v1 := by
  unfold U3
  exact copy_res (U2 m c)
/-- The first feature array before the third call. -/
theorem U3_fx (c : Dev nD) : U3 m c main_v0_0 = U2 m c main_v0_0 := by
  unfold U3
  exact copy_fx (U2 m c)
/-- The second feature array before the third call. -/
theorem U3_fy (c : Dev nD) : U3 m c main_v0_1 = U2 m c main_v0_1 := by
  unfold U3
  exact copy_fy (U2 m c)

end Cert.Proof.Ki

end
-- ==== Proof.Ki.Blocks2.lean ====
/-
  The third call's input blocks at a place, and what its body leaves at a place.
-/
module

public import proofs.«01_k».proof.Proof.Ki.Rows1

@[expose] public section

set_option maxRecDepth 16384

noncomputable section

namespace Cert.Proof.Ki

open Cert.KernelIdeal Cert.KernelIdeal.Gen
open Idealize.ShloMosaic Idealize.ShloMosaic.TcCoe
open Idealize.ShloMosaic.Pipeline (Dat Cfg Window BodyObligation)

variable (m : (ℓ : Loc nD τ sig) → Buf (Elt Ideal) ℓ)

/-- The index maps of the third call's windows. -/
theorem idx2 : ∀ t : Fin cfg2.N, win2_0.index t = ![t.val, 0, 0] ∧ win2_1.index t = ![t.val, 0, 0] ∧ win2_2.index t = ![t.val, 18, 0] :=
  (by decide +kernel : ∀ t : Fin grid2.N, _)

/-- Every place of the array is the pair row of the feature arrays. -/
abbrev pairs (x0 x1 : Vec Ideal S4x150x614 .f32) : Vec Ideal S4x22350x614 .f32 := fun i => pairAt x0 x1 (i 0) (i 1) (i 2)

/-- The first input's block at a point, read at a place. -/
theorem iblk2_0 (V : Vals (F := Ideal)) (c : Dev nD) (t : Fin cfg2.N) (b : Fin 4) (hb : b.val = t.val) (n : Fin 150) (w : Fin 614) :
    (iblk2 V c 0 t : Vec Ideal S1x150x614 .f32) (ix3 0 n w) = (V c main_v0_0 : Vec Ideal S4x150x614 .f32) (ix3 b n w) := by
  blk_ext [iblk2, idx2 t]
/-- The second input's block at a point, read at a place. -/
theorem iblk2_1 (V : Vals (F := Ideal)) (c : Dev nD) (t : Fin cfg2.N) (b : Fin 4) (hb : b.val = t.val) (n : Fin 150) (w : Fin 614) :
    (iblk2 V c 1 t : Vec Ideal S1x150x614 .f32) (ix3 0 n w) = (V c main_v0_1 : Vec Ideal S4x150x614 .f32) (ix3 b n w) := by
  blk_ext [iblk2, idx2 t]

/-- What the third body leaves at a point, read at a row of its block that lies in the array. -/
theorem out2_pair (V : Vals (F := Ideal)) (c : Dev nD) (t : Fin cfg2.N) (b : Fin 4) (hb : b.val = t.val) (rr : Fin 1192) (p : Fin 22350)
    (hp : p.val = 21456 + rr.val) (w : Fin 614) :
    out2 (iblk2 V c 0 t) (iblk2 V c 1 t) (ix3 0 rr w) = pairAt (V c main_v0_0) (V c main_v0_1) b p w := by
  have hpl := p.isLt
  have h := out2_at (iblk2 V c 0 t) (iblk2 V c 1 t) rr w (rr.val / 149) ⟨p.val / 149, by omega⟩ ⟨p.val % 149, by omega⟩
    (by show rr.val = 149 * (rr.val / 149) + p.val % 149; omega) (by show p.val / 149 = _; omega)
  rw [h]
  unfold pairAt
  rw [iblk2_0 V c t b hb, iblk2_1 V c t b hb, iblk2_1 V c t b hb]

end Cert.Proof.Ki

end
-- ==== Proof.Ki.Final.lean ====
/-
  The result of the run: the pair rows of the two feature arrays, everywhere.
-/
module

public import proofs.«01_k».proof.Proof.Ki.Copy
public import proofs.«01_k».proof.Proof.Ki.Blocks2

@[expose] public section

set_option maxRecDepth 200000

noncomputable section

namespace Cert.Proof.Ki

open Cert.KernelIdeal Cert.KernelIdeal.Gen
open Idealize.ShloMosaic Idealize.ShloMosaic.TcCoe
open Idealize.ShloMosaic.Pipeline (Dat Cfg Window BodyObligation)

variable (m : (ℓ : Loc nD τ sig) → Buf (Elt Ideal) ℓ)

set_option maxHeartbeats 1000000 in
/-- The third call leaves the pair rows everywhere, given them where it does not write. -/
theorem arr2_eq (V : Vals (F := Ideal)) (c : Dev nD)
    (hV : ∀ b p w, p.val < 21456 → V c main_v2 (ix3 b p w) = pairAt (V c main_v0_0) (V c main_v0_1) b p w) :
    (dat2 V c).arrAt 2 cfg2.N = pairs (V c main_v0_0) (V c main_v0_1) := by
  refine (dat2 V c).arrAt_eq_of_coversWhere_of_agree 2 _ (fun β => β (1 : Fin 3) = 18) (by decide +kernel) (fun t hf y => ?_) (fun j hj => ?_)
  · blk_simp
    rw [after2_2]
    obtain ⟨I, hI⟩ : ∃ I : S4x22350x614.Idx, I = (win2_2.blk t).view.emb y := ⟨_, rfl⟩
    have y0 : (y 0).val < 1 := ((cfg2.win 2).xinj (cfg2.grid.coords t) y 0).isLt
    have i0 : win2_2.index t 0 = t.val := by rw [(idx2 t).2.2]; rfl
    have i1 : win2_2.index t 1 = 18 := by rw [(idx2 t).2.2]; rfl
    have i2 : win2_2.index t 2 = 0 := by rw [(idx2 t).2.2]; rfl
    have e0 : (I 0).val = t.val := by
      rw [hI]; blk_simp; rw [i0]; omega
    obtain ⟨n, hn⟩ : ∃ n : ℕ, n = (y 1).val := ⟨_, rfl⟩
    have e1 : (I 1).val = 18 * 1192 + n := by
      obtain ⟨k, hk⟩ : ∃ k : ℕ, k = (I 1).val := ⟨_, rfl⟩
      rw [← hk]
      rw [hI] at hk
      blk_simp at hk
      rw [i1, ← hn] at hk
      exact hk
    have e2 : (I 2).val = (y 2).val := by
      rw [hI]; blk_simp; rw [i2]; omega
    have hI1 : (I 1).val < 22350 := (I 1).isLt
    have hI2 : (I 2).val < 614 := (I 2).isLt
    obtain ⟨rr, hrr⟩ : ∃ rr : Fin 1192, rr.val = n := ⟨⟨n, by omega⟩, rfl⟩
    have hx : (cfg2.win 2).xinj (cfg2.grid.coords t) y = (ix3 (0 : Fin 1) rr (I 2 : Fin 614) : S1x1192x614.Idx) := by
      funext a
      match a with
      | ⟨0, _⟩ => exact Fin.ext (by show (y 0).val = 0; omega)
      | ⟨1, _⟩ => exact Fin.ext (hn.symm.trans hrr.symm)
      | ⟨2, _⟩ => exact Fin.ext e2.symm
    have hp : (I 1).val = 21456 + rr.val := by omega
    rw [← hI, hx]
    exact out2_pair V c t (I 0) e0 rr (I 1) hp (I 2)
  · blk_simp [Pipeline.Window.cell_apply] at hj
    rw [A_eq2]
    have h1 : (j 1).val < 22350 := (j 1).isLt
    have hJ : ((cfg2.win 2).arr.view.emb j : S4x22350x614.Idx) = ix3 (j 0 : Fin 4) (j 1 : Fin 22350) (j 2 : Fin 614) := by
      funext a
      match a with
      | ⟨0, _⟩ => rfl
      | ⟨1, _⟩ => rfl
      | ⟨2, _⟩ => rfl
    rw [hJ]
    exact hV (j 0) (j 1) (j 2) (by omega)

/-- The result of the run is the pair rows of the feature arrays that the first call left. -/
theorem result_eq (c : Dev nD) : result m c = pairs ((dat0 (U0 m) c).arrAt 2 cfg0.N) ((dat0 (U0 m) c).arrAt 3 cfg0.N) := by
  have ex : W3 m c main_v0_0 = (dat0 (U0 m) c).arrAt 2 cfg0.N :=
    (U3_fx m c).trans ((U2_of_ne m c main_v0_0 (by decide)).trans (U1_fx m c))
  have ey : W3 m c main_v0_1 = (dat0 (U0 m) c).arrAt 3 cfg0.N :=
    (U3_fy m c).trans ((U2_of_ne m c main_v0_1 (by decide)).trans (U1_fy m c))
  have key := arr2_eq (W3 m) c (fun b p w hp => by
    refine (congrFun ((U3_res m c).trans (U2_res m c)) (ix3 b p w)).trans ?_
    unfold res1
    rw [chunks_at _ _ _ b p w hp]
    exact congrArg₂ (fun x y => pairAt x y b p w) ((U1_fx m c).trans ex.symm) ((U1_fy m c).trans ey.symm))
  unfold result
  rw [key, ex, ey]

end Cert.Proof.Ki

end
-- ==== Proof.Ri.Value.lean ====
/-
  The reference's result at every place: the six feature groups of the pair's two entities.
-/
module

public import proofs.«01_k».proof.Proof.Ri.Take

@[expose] public section

set_option maxRecDepth 16384

noncomputable section

namespace Cert.Proof.Ri

open Cert.ReferenceIdeal Cert.ReferenceIdeal.Gen Cert.ReferenceIdeal.Value
open Idealize.ShloMosaic Idealize.ShloMosaic.TcCoe

/-- The six groups side by side, each of two halves. -/
abbrev sides (a0 a1 : FVec Ideal S4x22350x4 .f32) (a2 a3 a4 a5 : FVec Ideal S4x22350x150 .f32)
    (a6 a7 a8 a9 a10 a11 : FVec Ideal S4x22350x1 .f32) : FVec Ideal S4x22350x614 .f32 :=
  concatenate S4x22350x614 2 [⟨S4x22350x8, concatenate S4x22350x8 2 [⟨S4x22350x4, a0⟩, ⟨S4x22350x4, a1⟩] concatenates_S4x22350x4_S4x22350x4_S4x22350x8_d2⟩,
    ⟨S4x22350x300, concatenate S4x22350x300 2 [⟨S4x22350x150, a2⟩, ⟨S4x22350x150, a3⟩] concatenates_S4x22350x150_S4x22350x150_S4x22350x300_d2⟩,
    ⟨S4x22350x300, concatenate S4x22350x300 2 [⟨S4x22350x150, a4⟩, ⟨S4x22350x150, a5⟩] concatenates_S4x22350x150_S4x22350x150_S4x22350x300_d2⟩,
    ⟨S4x22350x2, concatenate S4x22350x2 2 [⟨S4x22350x1, a6⟩, ⟨S4x22350x1, a7⟩] concatenates_S4x22350x1_S4x22350x1_S4x22350x2_d2⟩,
    ⟨S4x22350x2, concatenate S4x22350x2 2 [⟨S4x22350x1, a8⟩, ⟨S4x22350x1, a9⟩] concatenates_S4x22350x1_S4x22350x1_S4x22350x2_d2⟩,
    ⟨S4x22350x2, concatenate S4x22350x2 2 [⟨S4x22350x1, a10⟩, ⟨S4x22350x1, a11⟩] concatenates_S4x22350x1_S4x22350x1_S4x22350x2_d2⟩]
    concatenates_S4x22350x8_S4x22350x300_S4x22350x300_S4x22350x2_S4x22350x2_S4x22350x2_S4x22350x614_d2

set_option maxHeartbeats 1000000 in
/-- The side-by-side groups, read at a column. -/
theorem sides_at (a0 a1 : FVec Ideal S4x22350x4 .f32) (a2 a3 a4 a5 : FVec Ideal S4x22350x150 .f32)
    (a6 a7 a8 a9 a10 a11 : FVec Ideal S4x22350x1 .f32) (b : Fin 4) (p : Fin 22350) (w : Fin 614) :
    sides a0 a1 a2 a3 a4 a5 a6 a7 a8 a9 a10 a11 (ix3 b p w)
      = if h : w.val < 4 then a0 (ix3 b p ⟨w.val, h⟩)
        else if h : w.val < 8 then a1 (ix3 b p ⟨w.val - 4, by omega⟩)
        else if h : w.val < 158 then a2 (ix3 b p ⟨w.val - 8, by omega⟩)
        else if h : w.val < 308 then a3 (ix3 b p ⟨w.val - 158, by omega⟩)
        else if h : w.val < 458 then a4 (ix3 b p ⟨w.val - 308, by omega⟩)
        else if h : w.val < 608 then a5 (ix3 b p ⟨w.val - 458, by omega⟩)
        else if w.val < 609 then a6 (ix3 b p 0)
        else if w.val < 610 then a7 (ix3 b p 0)
        else if w.val < 611 then a8 (ix3 b p 0)
        else if w.val < 612 then a9 (ix3 b p 0)
        else if w.val < 613 then a10 (ix3 b p 0)
        else a11 (ix3 b p 0) := by
  unfold sides
  pointwise
  have hw := w.isLt
  by_cases c0 : w.val < 4
  · rw [dif_pos (show w.val < 8 by omega), dif_pos (show w.val < 4 by omega)]
    rw [dif_pos c0]
  by_cases c1 : w.val < 8
  · rw [dif_pos (show w.val < 8 by omega), dif_neg (show ¬ w.val < 4 by omega)]
    rw [dif_neg c0, dif_pos c1]
  by_cases c2 : w.val < 158
  · rw [dif_neg (show ¬ w.val < 8 by omega), dif_pos (show w.val - 8 < 300 by omega), dif_pos (show w.val - 8 < 150 by omega)]
    rw [dif_neg c0, dif_neg c1, dif_pos c2]
  by_cases c3 : w.val < 308
  · rw [dif_neg (show ¬ w.val < 8 by omega), dif_pos (show w.val - 8 < 300 by omega), dif_neg (show ¬ w.val - 8 < 150 by omega)]
    rw [dif_neg c0, dif_neg c1, dif_neg c2, dif_pos c3]
    exact congrArg (fun q => a3 (ix3 b p q)) (Fin.ext (by show w.val - 8 - 150 = w.val - 158; omega))
  by_cases c4 : w.val < 458
  · rw [dif_neg (show ¬ w.val < 8 by omega), dif_neg (show ¬ w.val - 8 < 300 by omega), dif_pos (show w.val - 8 - 300 < 300 by omega), dif_pos (show w.val - 8 - 300 < 150 by omega)]
    rw [dif_neg c0, dif_neg c1, dif_neg c2, dif_neg c3, dif_pos c4]
    exact congrArg (fun q => a4 (ix3 b p q)) (Fin.ext (by show w.val - 8 - 300 = w.val - 308; omega))
  by_cases c5 : w.val < 608
  · rw [dif_neg (show ¬ w.val < 8 by omega), dif_neg (show ¬ w.val - 8 < 300 by omega), dif_pos (show w.val - 8 - 300 < 300 by omega), dif_neg (show ¬ w.val - 8 - 300 < 150 by omega)]
    rw [dif_neg c0, dif_neg c1, dif_neg c2, dif_neg c3, dif_neg c4, dif_pos c5]
    exact congrArg (fun q => a5 (ix3 b p q)) (Fin.ext (by show w.val - 8 - 300 - 150 = w.val - 458; omega))
  by_cases c6 : w.val < 609
  · rw [dif_neg (show ¬ w.val < 8 by omega), dif_neg (show ¬ w.val - 8 < 300 by omega), dif_neg (show ¬ w.val - 8 - 300 < 300 by omega), dif_pos (show w.val - 8 - 300 - 300 < 2 by omega), dif_pos (show w.val - 8 - 300 - 300 < 1 by omega)]
    rw [dif_neg c0, dif_neg c1, dif_neg c2, dif_neg c3, dif_neg c4, dif_neg c5, if_pos c6]
    exact congrArg (fun q => a6 (ix3 b p q)) (Fin.ext (by show w.val - 8 - 300 - 300 = 0; omega))
  by_cases c7 : w.val < 610
  · rw [dif_neg (show ¬ w.val < 8 by omega), dif_neg (show ¬ w.val - 8 < 300 by omega), dif_neg (show ¬ w.val - 8 - 300 < 300 by omega), dif_pos (show w.val - 8 - 300 - 300 < 2 by omega), dif_neg (show ¬ w.val - 8 - 300 - 300 < 1 by omega)]
    rw [dif_neg c0, dif_neg c1, dif_neg c2, dif_neg c3, dif_neg c4, dif_neg c5, if_neg c6, if_pos c7]
    exact congrArg (fun q => a7 (ix3 b p q)) (Fin.ext (by show w.val - 8 - 300 - 300 - 1 = 0; omega))
  by_cases c8 : w.val < 611
  · rw [dif_neg (show ¬ w.val < 8 by omega), dif_neg (show ¬ w.val - 8 < 300 by omega), dif_neg (show ¬ w.val - 8 - 300 < 300 by omega), dif_neg (show ¬ w.val - 8 - 300 - 300 < 2 by omega), dif_pos (show w.val - 8 - 300 - 300 - 2 < 2 by omega), dif_pos (show w.val - 8 - 300 - 300 - 2 < 1 by omega)]
    rw [dif_neg c0, dif_neg c1, dif_neg c2, dif_neg c3, dif_neg c4, dif_neg c5, if_neg c6, if_neg c7, if_pos c8]
    exact congrArg (fun q => a8 (ix3 b p q)) (Fin.ext (by show w.val - 8 - 300 - 300 - 2 = 0; omega))
  by_cases c9 : w.val < 612
  · rw [dif_neg (show ¬ w.val < 8 by omega), dif_neg (show ¬ w.val - 8 < 300 by omega), dif_neg (show ¬ w.val - 8 - 300 < 300 by omega), dif_neg (show ¬ w.val - 8 - 300 - 300 < 2 by omega), dif_pos (show w.val - 8 - 300 - 300 - 2 < 2 by omega), dif_neg (show ¬ w.val - 8 - 300 - 300 - 2 < 1 by omega)]
    rw [dif_neg c0, dif_neg c1, dif_neg c2, dif_neg c3, dif_neg c4, dif_neg c5, if_neg c6, if_neg c7, if_neg c8, if_pos c9]
    exact congrArg (fun q => a9 (ix3 b p q)) (Fin.ext (by show w.val - 8 - 300 - 300 - 2 - 1 = 0; omega))
  by_cases c10 : w.val < 613
  · rw [dif_neg (show ¬ w.val < 8 by omega), dif_neg (show ¬ w.val - 8 < 300 by omega), dif_neg (show ¬ w.val - 8 - 300 < 300 by omega), dif_neg (show ¬ w.val - 8 - 300 - 300 < 2 by omega), dif_neg (show ¬ w.val - 8 - 300 - 300 - 2 < 2 by omega), dif_pos (show w.val - 8 - 300 - 300 - 2 - 2 < 1 by omega)]
    rw [dif_neg c0, dif_neg c1, dif_neg c2, dif_neg c3, dif_neg c4, dif_neg c5, if_neg c6, if_neg c7, if_neg c8, if_neg c9, if_pos c10]
    exact congrArg (fun q => a10 (ix3 b p q)) (Fin.ext (by show w.val - 8 - 300 - 300 - 2 - 2 = 0; omega))
  rw [dif_neg (show ¬ w.val < 8 by omega), dif_neg (show ¬ w.val - 8 < 300 by omega), dif_neg (show ¬ w.val - 8 - 300 < 300 by omega), dif_neg (show ¬ w.val - 8 - 300 - 300 < 2 by omega), dif_neg (show ¬ w.val - 8 - 300 - 300 - 2 < 2 by omega), dif_neg (show ¬ w.val - 8 - 300 - 300 - 2 - 2 < 1 by omega)]
  rw [dif_neg c0, dif_neg c1, dif_neg c2, dif_neg c3, dif_neg c4, dif_neg c5, if_neg c6, if_neg c7, if_neg c8, if_neg c9, if_neg c10]
  exact congrArg (fun q => a11 (ix3 b p q)) (Fin.ext (by show w.val - 8 - 300 - 300 - 2 - 2 - 1 = 0; omega))

/-- The reference's result is the twelve takes side by side. -/
theorem result_sides (V0 : Valuation τ sig (Elt Ideal)) : res_main_v45 V0
    = sides (take4 (wrap (res_main_c V0)) (V0 (Proc.devRef .tc main_arg1))) (take4 (wrap (res_main_c_0 V0)) (V0 (Proc.devRef .tc main_arg1)))
      (take150 (wrap (res_main_c V0)) (res_main_v5 V0)) (take150 (wrap (res_main_c_0 V0)) (res_main_v5 V0))
      (take150 (wrap (res_main_c V0)) (res_main_v15 V0)) (take150 (wrap (res_main_c_0 V0)) (res_main_v15 V0))
      (take1 (wrap (res_main_c V0)) (res_main_v19 V0)) (take1 (wrap (res_main_c_0 V0)) (res_main_v19 V0))
      (take1 (wrap (res_main_c V0)) (res_main_v25 V0)) (take1 (wrap (res_main_c_0 V0)) (res_main_v25 V0))
      (take1 (wrap (res_main_c V0)) (res_main_v26 V0)) (take1 (wrap (res_main_c_0 V0)) (res_main_v26 V0)) := rfl

end Cert.Proof.Ri

end
-- ==== Proof.Equal.lean ====
/-
  The reference's result is the pairs of the kernel's feature rows.
-/
module

public import proofs.«01_k».proof.Proof.Features
public import proofs.«01_k».proof.Proof.Ki.Final
public import proofs.«01_k».proof.Proof.Ri.Value

@[expose] public section

set_option maxRecDepth 16384

noncomputable section

namespace Cert.Proof.Same

open Idealize.ShloMosaic Idealize.ShloMosaic.TcCoe
open Cert.KernelIdeal.Gen Cert.ReferenceIdeal.Value Cert.Proof.Ki Cert.Proof.Ri

/-- A pair's row is the second entity's row of the second array plus the first entity's row of the first. -/
theorem pairAt_of (x0 x1 : FVec Ideal Cert.KernelIdeal.S4x150x614 .f32) (b : Fin 4) (p : Fin 22350) (w : Fin 614) (n n' : Fin 150)
    (hn : n.val = p.val / 149) (hn' : n'.val = if p.val % 149 < p.val / 149 then p.val % 149 else p.val % 149 + 1) :
    pairAt x0 x1 b p w = x1 (ix3 b n' w) + x0 (ix3 b n w) := by
  have hp := p.isLt
  have e : (⟨p.val / 149, by omega⟩ : Fin 150) = n := Fin.ext hn.symm
  unfold pairAt
  rw [e]
  split at hn'
  · next hlt =>
    have e' : (⟨p.val % 149, by omega⟩ : Fin 150) = n' := Fin.ext hn'.symm
    rw [if_pos hlt, e']
  · next hge =>
    have e' : (⟨p.val % 149 + 1, by omega⟩ : Fin 150) = n' := Fin.ext hn'.symm
    rw [if_neg hge, e']

set_option maxHeartbeats 1000000 in
/-- The reference's result at a place is the pair row of the kernel's features. -/
theorem value_at (V0 : Valuation Cert.ReferenceIdeal.τ Cert.ReferenceIdeal.sig (Elt Ideal)) (xa : FVec Ideal Cert.ReferenceIdeal.S4x150x150 .f32)
    (xb : FVec Ideal Cert.ReferenceIdeal.S4x150x4 .f32) (ha : V0 (Proc.devRef .tc Cert.ReferenceIdeal.main_arg0) = xa)
    (hb : V0 (Proc.devRef .tc Cert.ReferenceIdeal.main_arg1) = xb) (b : Fin 4) (p : Fin 22350) (w : Fin 614) :
    res_main_v45 V0 (ix3 b p w) = pairAt (featX xa xb) (featY xa xb) b p w := by
  have hp := p.isLt
  have hw := w.isLt
  obtain ⟨n, hn⟩ : ∃ n : Fin 150, n.val = p.val / 149 := ⟨⟨p.val / 149, by omega⟩, rfl⟩
  obtain ⟨n', hn'⟩ : ∃ n' : Fin 150, n'.val = if p.val % 149 < p.val / 149 then p.val % 149 else p.val % 149 + 1 :=
    ⟨⟨if p.val % 149 < p.val / 149 then p.val % 149 else p.val % 149 + 1, by split <;> omega⟩, rfl⟩
  have h1 := wrap_first V0 p n hn
  have h2 := wrap_second V0 p n' hn'
  rw [pairAt_of _ _ b p w n n' hn hn', featX_at, featY_at, beside_at, beside_at]
  refine (congrFun (result_sides V0) (ix3 b p w)).trans ((sides_at _ _ _ _ _ _ _ _ _ _ _ _ b p w).trans ?_)
  generalize wrap (res_main_c V0) = I1 at h1 ⊢
  generalize wrap (res_main_c_0 V0) = I2 at h2 ⊢
  by_cases c0 : w.val < 4
  · rw [dif_pos c0, dif_pos c0, dif_pos c0]
    rw [take4_at _ _ b p _ n h1, (Ki.zero4 n' ⟨w.val, c0⟩), box xb b n ⟨w.val, c0⟩, hb, zero_add]
  by_cases c1 : w.val < 8
  · rw [dif_neg c0, dif_pos c1, dif_neg c0, dif_pos c1, dif_neg c0, dif_pos c1]
    rw [take4_at _ _ b p _ n' h2, (Ki.zero4 n ⟨w.val - 4, by omega⟩), box xb b n' ⟨w.val - 4, by omega⟩, hb, add_zero]
  by_cases c2 : w.val < 158
  · rw [dif_neg c0, dif_neg c1, dif_pos c2, dif_neg c0, dif_neg c1, dif_pos c2, dif_neg c0, dif_neg c1, dif_pos c2]
    rw [take150_at _ _ b p _ n h1, (Ki.zero150 n' ⟨w.val - 8, by omega⟩), score V0 xa ha b n ⟨w.val - 8, by omega⟩, zero_add]
  by_cases c3 : w.val < 308
  · rw [dif_neg c0, dif_neg c1, dif_neg c2, dif_pos c3, dif_neg c0, dif_neg c1, dif_neg c2, dif_pos c3, dif_neg c0, dif_neg c1, dif_neg c2, dif_pos c3]
    rw [take150_at _ _ b p _ n' h2, (Ki.zero150 n ⟨w.val - 158, by omega⟩), score V0 xa ha b n' ⟨w.val - 158, by omega⟩, add_zero]
  by_cases c4 : w.val < 458
  · rw [dif_neg c0, dif_neg c1, dif_neg c2, dif_neg c3, dif_pos c4, dif_neg c0, dif_neg c1, dif_neg c2, dif_neg c3, dif_pos c4, dif_neg c0, dif_neg c1, dif_neg c2, dif_neg c3, dif_pos c4]
    rw [take150_at _ _ b p _ n h1, (Ki.zero150 n' ⟨w.val - 308, by omega⟩), fold V0 xa ha b n ⟨w.val - 308, by omega⟩, zero_add]
  by_cases c5 : w.val < 608
  · rw [dif_neg c0, dif_neg c1, dif_neg c2, dif_neg c3, dif_neg c4, dif_pos c5, dif_neg c0, dif_neg c1, dif_neg c2, dif_neg c3, dif_neg c4, dif_pos c5, dif_neg c0, dif_neg c1, dif_neg c2, dif_neg c3, dif_neg c4, dif_pos c5]
    rw [take150_at _ _ b p _ n' h2, (Ki.zero150 n ⟨w.val - 458, by omega⟩), fold V0 xa ha b n' ⟨w.val - 458, by omega⟩, add_zero]
  by_cases c6 : w.val < 609
  · rw [dif_neg c0, dif_neg c1, dif_neg c2, dif_neg c3, dif_neg c4, dif_neg c5, if_pos c6, dif_neg c0, dif_neg c1, dif_neg c2, dif_neg c3, dif_neg c4, dif_neg c5, if_pos c6, dif_neg c0, dif_neg c1, dif_neg c2, dif_neg c3, dif_neg c4, dif_neg c5, if_pos c6]
    rw [take1_at _ _ b p _ n h1, (Ki.zero1 n' 0), logTop V0 xa ha b n, zero_add]
  by_cases c7 : w.val < 610
  · rw [dif_neg c0, dif_neg c1, dif_neg c2, dif_neg c3, dif_neg c4, dif_neg c5, if_neg c6, if_pos c7, dif_neg c0, dif_neg c1, dif_neg c2, dif_neg c3, dif_neg c4, dif_neg c5, if_neg c6, if_pos c7, dif_neg c0, dif_neg c1, dif_neg c2, dif_neg c3, dif_neg c4, dif_neg c5, if_neg c6, if_pos c7]
    rw [take1_at _ _ b p _ n' h2, (Ki.zero1 n 0), logTop V0 xa ha b n', add_zero]
  by_cases c8 : w.val < 611
  · rw [dif_neg c0, dif_neg c1, dif_neg c2, dif_neg c3, dif_neg c4, dif_neg c5, if_neg c6, if_neg c7, if_pos c8, dif_neg c0, dif_neg c1, dif_neg c2, dif_neg c3, dif_neg c4, dif_neg c5, if_neg c6, if_neg c7, if_pos c8, dif_neg c0, dif_neg c1, dif_neg c2, dif_neg c3, dif_neg c4, dif_neg c5, if_neg c6, if_neg c7, if_pos c8]
    rw [take1_at _ _ b p _ n h1, (Ki.zero1 n' 0), logRest V0 xa ha b n, zero_add]
  by_cases c9 : w.val < 612
  · rw [dif_neg c0, dif_neg c1, dif_neg c2, dif_neg c3, dif_neg c4, dif_neg c5, if_neg c6, if_neg c7, if_neg c8, if_pos c9, dif_neg c0, dif_neg c1, dif_neg c2, dif_neg c3, dif_neg c4, dif_neg c5, if_neg c6, if_neg c7, if_neg c8, if_pos c9, dif_neg c0, dif_neg c1, dif_neg c2, dif_neg c3, dif_neg c4, dif_neg c5, if_neg c6, if_neg c7, if_neg c8, if_pos c9]
    rw [take1_at _ _ b p _ n' h2, (Ki.zero1 n 0), logRest V0 xa ha b n', add_zero]
  by_cases c10 : w.val < 613
  · rw [dif_neg c0, dif_neg c1, dif_neg c2, dif_neg c3, dif_neg c4, dif_neg c5, if_neg c6, if_neg c7, if_neg c8, if_neg c9, if_pos c10, dif_neg c0, dif_neg c1, dif_neg c2, dif_neg c3, dif_neg c4, dif_neg c5, if_neg c6, if_neg c7, if_neg c8, if_neg c9, if_pos c10, dif_neg c0, dif_neg c1, dif_neg c2, dif_neg c3, dif_neg c4, dif_neg c5, if_neg c6, if_neg c7, if_neg c8, if_neg c9, if_pos c10]
    rw [take1_at _ _ b p _ n h1, (Ki.zero1 n' 0), topCol V0 xa ha b n, zero_add]
  rw [dif_neg c0, dif_neg c1, dif_neg c2, dif_neg c3, dif_neg c4, dif_neg c5, if_neg c6, if_neg c7, if_neg c8, if_neg c9, if_neg c10, dif_neg c0, dif_neg c1, dif_neg c2, dif_neg c3, dif_neg c4, dif_neg c5, if_neg c6, if_neg c7, if_neg c8, if_neg c9, if_neg c10, dif_neg c0, dif_neg c1, dif_neg c2, dif_neg c3, dif_neg c4, dif_neg c5, if_neg c6, if_neg c7, if_neg c8, if_neg c9, if_neg c10]
  rw [take1_at _ _ b p _ n' h2, (Ki.zero1 n 0), topCol V0 xa ha b n', add_zero]

/-- The reference's result is the kernel's, from the same arguments. -/
theorem value_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (ha : V0 (Proc.devRef .tc Cert.ReferenceIdeal.main_arg0) = m ((c.tc : Thread Cert.KernelIdeal.nD Cert.KernelIdeal.τ).loc Cert.KernelIdeal.main_arg0))
    (hb : V0 (Proc.devRef .tc Cert.ReferenceIdeal.main_arg1) = m ((c.tc : Thread Cert.KernelIdeal.nD Cert.KernelIdeal.τ).loc Cert.KernelIdeal.main_arg1)) :
    res_main_v45 V0 = Ki.result m c := by
  rw [Ki.result_eq m c, Ki.arr0x_eq, Ki.arr0y_eq]
  funext i
  obtain ⟨b, p, w, rfl⟩ : ∃ (b : Fin 4) (p : Fin 22350) (w : Fin 614), i = ix3 b p w :=
    ⟨i 0, i 1, i 2, funext fun a => match a with | ⟨0, _⟩ => rfl | ⟨1, _⟩ => rfl | ⟨2, _⟩ => rfl⟩
  exact value_at V0 _ _ ha hb b p w

end Cert.Proof.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ki.Run
public import proofs.«01_k».proof.Proof.Kb.Run
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The kernel ends with its arguments as launched and every semaphore counter at zero. -/
theorem frame_Kernel : Cert.quiescent_Kernel (hKernel := Cert.Kernel.Gen.facts) := fun m g _ =>
  (θ_run (Cert.Kernel.defs (F := Bits)) _ _).mono (fun _ h => ⟨fun c => (h.1 c).1, h.2⟩) (Kb.run m g)

/-- So does the kernel over the extended reals. -/
theorem frame_KernelIdeal : Cert.quiescent_KernelIdeal (hKernelIdeal := Cert.KernelIdeal.Gen.facts) := fun m g _ =>
  (θ_run (Cert.KernelIdeal.defs (F := Ideal)) _ _).mono (fun _ h => ⟨fun c => (h.1 c).1, h.2⟩) (Ki.run m g)

/-- So does the reference over the extended reals. -/
theorem frame_ReferenceIdeal : Cert.quiescent_ReferenceIdeal (hReferenceIdeal := Cert.ReferenceIdeal.Gen.facts) := fun m g _ =>
  (θ_run (Cert.ReferenceIdeal.defs (F := Ideal)) _ _).mono (fun _ h => ⟨fun c => (h c).2, funext fun gs => nomatch gs.2⟩)
    (Cert.ReferenceIdeal.Value.run (F := Ideal) m g)

/-- From the same arguments the kernel and the reference end with the same result over the extended reals. -/
theorem algebraic_KernelIdeal_ReferenceIdeal : Cert.algebraic_KernelIdeal_ReferenceIdeal (hKernelIdeal := Cert.KernelIdeal.Gen.facts)
    (hReferenceIdeal := Cert.ReferenceIdeal.Gen.facts) := fun m g m' g' _ hargs =>
  ⟨Ki.result m,
    (θ_run (Cert.KernelIdeal.defs (F := Ideal)) _ _).mono (fun _ h c => ⟨(h.1 c).2, (h.1 c).1⟩) (Ki.run m g),
    (θ_run (Cert.ReferenceIdeal.defs (F := Ideal)) _ _).mono
      (fun _ h c => ⟨(h c).1.trans (Same.value_eq m c _ (hargs c).1 (hargs c).2), (h c).2⟩)
      (Cert.ReferenceIdeal.Value.run (F := Ideal) m' g')⟩

/-- The claims of this directory. -/
theorem claim : Cert.Claim := ⟨Cert.Kernel.Gen.facts, Cert.KernelIdeal.Gen.facts, Cert.ReferenceIdeal.Gen.facts,
  frame_Kernel, frame_KernelIdeal, frame_ReferenceIdeal, trivial, algebraic_KernelIdeal_ReferenceIdeal⟩

end Cert.Proof

end
